-- ==== Defs.lean ====
def Pre_Gather [hPre_in_grid : Cert.Pre_in_grid.Facts] (m : (ℓ : Loc Cert.Gather.nD Cert.Gather.τ Cert.Gather.sig) → Buf (Elt Bits) ℓ) : Prop :=
  ∀ c : Dev Cert.Gather.nD,
    (Cert.Pre_in_grid.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_grid : Cert.Pre_in_grid.Facts] (m : (ℓ : Loc Cert.GatherIdeal.nD Cert.GatherIdeal.τ Cert.GatherIdeal.sig) → Buf (Elt Ideal) ℓ) : Prop :=
  ∀ c : Dev Cert.GatherIdeal.nD,
    (Cert.Pre_in_grid.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_in_grid [hPre_in_grid : Cert.Pre_in_grid.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_in_grid.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_bounded_nearest [hPre_bounded_nearest : Cert.Pre_bounded_nearest.Facts] (m : (ℓ : Loc Cert.NearestIdeal.nD Cert.NearestIdeal.τ Cert.NearestIdeal.sig) → Buf (Elt Ideal) ℓ) : Prop :=
  ∀ c : Dev Cert.NearestIdeal.nD,
    (Cert.Pre_bounded_nearest.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1)) (m ((c.tc : Thread Cert.NearestIdeal.nD Cert.NearestIdeal.τ).loc Cert.NearestIdeal.main_arg2)) (m ((c.tc : Thread Cert.NearestIdeal.nD Cert.NearestIdeal.τ).loc Cert.NearestIdeal.main_arg3))) = (fun _ => 1#1)

def Pre_NearestRefIdeal (m : (ℓ : Loc Cert.NearestRefIdeal.nD Cert.NearestRefIdeal.τ Cert.NearestRefIdeal.sig) → Buf (Elt Ideal) ℓ) : Prop :=
  True

def Pre_NearestRefIdeal_bounded_nearest [hPre_bounded_nearest : Cert.Pre_bounded_nearest.Facts] (m : (ℓ : Loc Cert.NearestRefIdeal.nD Cert.NearestRefIdeal.τ Cert.NearestRefIdeal.sig) → Buf (Elt Ideal) ℓ) : Prop :=
  ∀ c : Dev Cert.NearestRefIdeal.nD,
    (Cert.Pre_bounded_nearest.fn (F := Ideal) (m ((c.tc : Thread Cert.NearestRefIdeal.nD Cert.NearestRefIdeal.τ).loc Cert.NearestRefIdeal.main_arg0)) (m ((c.tc : Thread Cert.NearestRefIdeal.nD Cert.NearestRefIdeal.τ).loc Cert.NearestRefIdeal.main_arg1)) (m ((c.tc : Thread Cert.NearestRefIdeal.nD Cert.NearestRefIdeal.τ).loc Cert.NearestRefIdeal.main_arg2)) (m ((c.tc : Thread Cert.NearestRefIdeal.nD Cert.NearestRefIdeal.τ).loc Cert.NearestRefIdeal.main_arg3))) = (fun _ => 1#1)

def Pre_KernelIdeal [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Gather [hGather : Cert.Gather.Facts] [hPre_in_grid : Cert.Pre_in_grid.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_grid : Cert.Pre_in_grid.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_in_grid [hGatherRefIdeal : Cert.GatherRefIdeal.Facts] [hPre_in_grid : Cert.Pre_in_grid.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_in_grid m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1)
      ∧ r.2.mem ((c.tc : Thread Cert.Nearest.nD Cert.Nearest.τ).loc Cert.Nearest.main_arg2) = m ((c.tc : Thread Cert.Nearest.nD Cert.Nearest.τ).loc Cert.Nearest.main_arg2)
      ∧ r.2.mem ((c.tc : Thread Cert.Nearest.nD Cert.Nearest.τ).loc Cert.Nearest.main_arg3) = m ((c.tc : Thread Cert.Nearest.nD Cert.Nearest.τ).loc Cert.Nearest.main_arg3))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
      ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ r.2.sem = fun _ => 0)

def quiescent_NearestIdeal_pre_bounded_nearest [hNearestIdeal : Cert.NearestIdeal.Facts] [hPre_bounded_nearest : Cert.Pre_bounded_nearest.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_bounded_nearest m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
      ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ r.2.sem = fun _ => 0)

def quiescent_NearestRefIdeal [hNearestRefIdeal : Cert.NearestRefIdeal.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1)
      ∧ r.2.mem ((c.tc : Thread Cert.NearestRefIdeal.nD Cert.NearestRefIdeal.τ).loc Cert.NearestRefIdeal.main_arg2) = m ((c.tc : Thread Cert.NearestRefIdeal.nD Cert.NearestRefIdeal.τ).loc Cert.NearestRefIdeal.main_arg2)
      ∧ r.2.mem ((c.tc : Thread Cert.NearestRefIdeal.nD Cert.NearestRefIdeal.τ).loc Cert.NearestRefIdeal.main_arg3) = m ((c.tc : Thread Cert.NearestRefIdeal.nD Cert.NearestRefIdeal.τ).loc Cert.NearestRefIdeal.main_arg3))
      ∧ r.2.sem = fun _ => 0)

def quiescent_NearestRefIdeal_pre_bounded_nearest [hNearestRefIdeal : Cert.NearestRefIdeal.Facts] [hPre_bounded_nearest : Cert.Pre_bounded_nearest.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal_bounded_nearest m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1)
      ∧ r.2.mem ((c.tc : Thread Cert.NearestRefIdeal.nD Cert.NearestRefIdeal.τ).loc Cert.NearestRefIdeal.main_arg2) = m ((c.tc : Thread Cert.NearestRefIdeal.nD Cert.NearestRefIdeal.τ).loc Cert.NearestRefIdeal.main_arg2)
      ∧ r.2.mem ((c.tc : Thread Cert.NearestRefIdeal.nD Cert.NearestRefIdeal.τ).loc Cert.NearestRefIdeal.main_arg3) = m ((c.tc : Thread Cert.NearestRefIdeal.nD Cert.NearestRefIdeal.τ).loc Cert.NearestRefIdeal.main_arg3))
      ∧ r.2.sem = fun _ => 0)

def quiescent_KernelIdeal [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_in_grid : Cert.Pre_in_grid.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v0) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def preserves_Nearest_NearestIdeal : Prop :=
  True

def algebraic_NearestIdeal_NearestRefIdeal_pre_bounded_nearest [hNearestIdeal : Cert.NearestIdeal.Facts] [hNearestRefIdeal : Cert.NearestRefIdeal.Facts] [hPre_bounded_nearest : Cert.Pre_bounded_nearest.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestRefIdeal.nD Cert.NearestRefIdeal.τ Cert.NearestRefIdeal.sig) → Buf (Elt Ideal) ℓ) (g' : Dev Cert.NearestRefIdeal.nD → PrngReg), Pre_NearestIdeal_bounded_nearest m →
    (∀ c : Dev Cert.NearestIdeal.nD,
      m' ((c.tc : Thread Cert.NearestRefIdeal.nD Cert.NearestRefIdeal.τ).loc Cert.NearestRefIdeal.main_arg0) = m ((c.tc : Thread Cert.NearestIdeal.nD Cert.NearestIdeal.τ).loc Cert.NearestIdeal.main_arg0)
      ∧ m' ((c.tc : Thread Cert.NearestRefIdeal.nD Cert.NearestRefIdeal.τ).loc Cert.NearestRefIdeal.main_arg1) = m ((c.tc : Thread Cert.NearestIdeal.nD Cert.NearestIdeal.τ).loc Cert.NearestIdeal.main_arg1)
      ∧ m' ((c.tc : Thread Cert.NearestRefIdeal.nD Cert.NearestRefIdeal.τ).loc Cert.NearestRefIdeal.main_arg2) = m ((c.tc : Thread Cert.NearestIdeal.nD Cert.NearestIdeal.τ).loc Cert.NearestIdeal.main_arg2)
      ∧ m' ((c.tc : Thread Cert.NearestRefIdeal.nD Cert.NearestRefIdeal.τ).loc Cert.NearestRefIdeal.main_arg3) = m ((c.tc : Thread Cert.NearestIdeal.nD Cert.NearestIdeal.τ).loc Cert.NearestIdeal.main_arg3)) →
    ∃ (v0 : (c : Dev Cert.NearestIdeal.nD) → Buf (Elt Ideal) ((c.tc : Thread Cert.NearestIdeal.nD Cert.NearestIdeal.τ).loc Cert.NearestIdeal.main_v6)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v6) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
          ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
          ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ θ_run (Cert.NearestRefIdeal.defs (F := Ideal)) (onTc (τ := Cert.NearestRefIdeal.τ) (Cert.NearestRefIdeal.main (F := Ideal))) ⟨m', fun _ => 0, g'⟩ (fun r => ∀ c : Dev Cert.NearestRefIdeal.nD,
          r.2.mem ((c.tc : Thread Cert.NearestRefIdeal.nD Cert.NearestRefIdeal.τ).loc Cert.NearestRefIdeal.main_v9) = v0 c
          ∧ r.2.mem ((c.tc : Thread Cert.NearestRefIdeal.nD Cert.NearestRefIdeal.τ).loc Cert.NearestRefIdeal.main_arg0) = m' ((c.tc : Thread Cert.NearestRefIdeal.nD Cert.NearestRefIdeal.τ).loc Cert.NearestRefIdeal.main_arg0)
          ∧ r.2.mem ((c.tc : Thread Cert.NearestRefIdeal.nD Cert.NearestRefIdeal.τ).loc Cert.NearestRefIdeal.main_arg1) = m' ((c.tc : Thread Cert.NearestRefIdeal.nD Cert.NearestRefIdeal.τ).loc Cert.NearestRefIdeal.main_arg1)
          ∧ r.2.mem ((c.tc : Thread Cert.NearestRefIdeal.nD Cert.NearestRefIdeal.τ).loc Cert.NearestRefIdeal.main_arg2) = m' ((c.tc : Thread Cert.NearestRefIdeal.nD Cert.NearestRefIdeal.τ).loc Cert.NearestRefIdeal.main_arg2)
          ∧ r.2.mem ((c.tc : Thread Cert.NearestRefIdeal.nD Cert.NearestRefIdeal.τ).loc Cert.NearestRefIdeal.main_arg3) = m' ((c.tc : Thread Cert.NearestRefIdeal.nD Cert.NearestRefIdeal.τ).loc Cert.NearestRefIdeal.main_arg3))

def algebraic_KernelIdeal_ReferenceIdeal [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hGather : Cert.Gather.Facts) (hGatherIdeal : Cert.GatherIdeal.Facts) (hGatherRefIdeal : Cert.GatherRefIdeal.Facts) (hNearest : Cert.Nearest.Facts) (hNearestIdeal : Cert.NearestIdeal.Facts) (hNearestRefIdeal : Cert.NearestRefIdeal.Facts) (hKernelIdeal : Cert.KernelIdeal.Facts) (hReferenceIdeal : Cert.ReferenceIdeal.Facts) (hPre_in_grid : Cert.Pre_in_grid.Facts) (hPre_bounded_nearest : Cert.Pre_bounded_nearest.Facts) (hPre_bounded : Cert.Pre_bounded.Facts),
    quiescent_Gather (hGather := hGather) (hPre_in_grid := hPre_in_grid)
    ∧ quiescent_GatherIdeal (hGatherIdeal := hGatherIdeal) (hPre_in_grid := hPre_in_grid)
    ∧ quiescent_GatherRefIdeal (hGatherRefIdeal := hGatherRefIdeal)
    ∧ quiescent_GatherRefIdeal_pre_in_grid (hGatherRefIdeal := hGatherRefIdeal) (hPre_in_grid := hPre_in_grid)
    ∧ quiescent_Nearest (hNearest := hNearest)
    ∧ quiescent_NearestIdeal (hNearestIdeal := hNearestIdeal)
    ∧ quiescent_NearestIdeal_pre_bounded_nearest (hNearestIdeal := hNearestIdeal) (hPre_bounded_nearest := hPre_bounded_nearest)
    ∧ quiescent_NearestRefIdeal (hNearestRefIdeal := hNearestRefIdeal)
    ∧ quiescent_NearestRefIdeal_pre_bounded_nearest (hNearestRefIdeal := hNearestRefIdeal) (hPre_bounded_nearest := hPre_bounded_nearest)
    ∧ quiescent_KernelIdeal (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Gather_GatherIdeal
    ∧ algebraic_GatherIdeal_GatherRefIdeal (hGatherIdeal := hGatherIdeal) (hGatherRefIdeal := hGatherRefIdeal) (hPre_in_grid := hPre_in_grid)
    ∧ preserves_Nearest_NearestIdeal
    ∧ algebraic_NearestIdeal_NearestRefIdeal_pre_bounded_nearest (hNearestIdeal := hNearestIdeal) (hNearestRefIdeal := hNearestRefIdeal) (hPre_bounded_nearest := hPre_bounded_nearest)
    ∧ algebraic_KernelIdeal_ReferenceIdeal (hKernelIdeal := hKernelIdeal) (hReferenceIdeal := hReferenceIdeal) (hPre_bounded := hPre_bounded)
-- ==== Pre_bounded.lean ====
abbrev S4096x2 : Shape := ⟨2, ![4096, 2]⟩
abbrev S4096x128 : Shape := ⟨2, ![4096, 128]⟩
abbrev S2500x2x128 : Shape := ⟨3, ![2500, 2, 128]⟩
abbrev S2500x2 : Shape := ⟨2, ![2500, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S2500x2x128 : S_.BroadcastsInDim S2500x2x128 (![] : Fin 0 → Fin S2500x2x128.rank)
  reducesTo_S2500x2x128_S_d0_1_2 : S2500x2x128.ReducesTo [0, 1, 2] S_
  bcast_S_S2500x2 : S_.BroadcastsInDim S2500x2 (![] : Fin 0 → Fin S2500x2.rank)
  reducesTo_S2500x2_S_d0_1 : S2500x2.ReducesTo [0, 1] S_

variable [Facts]

def fn_part1 {F : FTy → Type} [FloatOps F] (main_v13 : IVec S_ 1) (main_v16 : IVec S2500x2 1) : IVec S_ 1 :=
  let main_c_5 : IVec S_ 1 := constantI S_ 1 1#1
  let main_v17 : IVec S_ 1 := (fun x v => Host.reduce IntOp.andi x v reducesTo_S2500x2_S_d0_1 h_S_) main_v16 main_c_5
  let main_v18 : IVec S_ 1 := andi main_v13 main_v17
  main_v18

def fn {F : FTy → Type} [FloatOps F] (main_arg0 : FVec F S4096x2 .f32) (main_arg1 : FVec F S4096x128 .f32) (main_arg2 : FVec F S2500x2x128 .f32) (main_arg3 : FVec F S2500x2 .f32) (main_arg4 : FVec F S2500x2 .f32) : IVec S_ 1 :=
  let main_v0 : FVec F S4096x2 .f32 := Host.absf main_arg0
  let main_cst : FVec F S_ .f32 := constant S_ .f32 0x5CDE0B6B#32
  let main_v1 : FVec F S4096x2 .f32 := broadcastInDim S4096x2 ![] bcast_S_S4096x2 main_cst
  let main_v2 : IVec S4096x2 1 := cmpf .ole main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096x128 .f32 := Host.absf main_arg1
  let main_cst_0 : FVec F S_ .f32 := constant S_ .f32 0x4CBEBC20#32
  let main_v5 : FVec F S4096x128 .f32 := broadcastInDim S4096x128 ![] bcast_S_S4096x128 main_cst_0
  let main_v6 : IVec S4096x128 1 := cmpf .ole main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S2500x2x128 .f32 := Host.absf main_arg2
  let main_cst_2 : FVec F S_ .f32 := constant S_ .f32 0x4B189680#32
  let main_v10 : FVec F S2500x2x128 .f32 := broadcastInDim S2500x2x128 ![] bcast_S_S2500x2x128 main_cst_2
  let main_v11 : IVec S2500x2x128 1 := cmpf .ole main_v9 main_v10
  let main_c_3 : IVec S_ 1 := constantI S_ 1 1#1
  let main_v12 : IVec S_ 1 := (fun x v => Host.reduce IntOp.andi x v reducesTo_S2500x2x128_S_d0_1_2 h_S_) main_v11 main_c_3
  let main_v13 : IVec S_ 1 := andi main_v8 main_v12
  let main_v14 : FVec F S2500x2 .f32 := Host.absf main_arg3
  let main_cst_4 : FVec F S_ .f32 := constant S_ .f32 0x5CDE0B6B#32
  let main_v15 : FVec F S2500x2 .f32 := broadcastInDim S2500x2 ![] bcast_S_S2500x2 main_cst_4
  let main_v16 : IVec S2500x2 1 := cmpf .ole main_v14 main_v15
  fn_part1 (F := F) main_v13 main_v16
-- ==== Pre_bounded_nearest.lean ====
abbrev S4096x2 : Shape := ⟨2, ![4096, 2]⟩
abbrev S4096x128 : Shape := ⟨2, ![4096, 128]⟩
abbrev S2500x2x128 : Shape := ⟨3, ![2500, 2, 128]⟩
abbrev S2500x2 : Shape := ⟨2, ![2500, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S2500x2x128 : S_.BroadcastsInDim S2500x2x128 (![] : Fin 0 → Fin S2500x2x128.rank)
  reducesTo_S2500x2x128_S_d0_1_2 : S2500x2x128.ReducesTo [0, 1, 2] S_
  bcast_S_S2500x2 : S_.BroadcastsInDim S2500x2 (![] : Fin 0 → Fin S2500x2.rank)
  reducesTo_S2500x2_S_d0_1 : S2500x2.ReducesTo [0, 1] S_

variable [Facts]

def fn_part1 {F : FTy → Type} [FloatOps F] (main_v13 : IVec S_ 1) (main_v16 : IVec S2500x2 1) : IVec S_ 1 :=
  let main_c_5 : IVec S_ 1 := constantI S_ 1 1#1
  let main_v17 : IVec S_ 1 := (fun x v => Host.reduce IntOp.andi x v reducesTo_S2500x2_S_d0_1 h_S_) main_v16 main_c_5
  let main_v18 : IVec S_ 1 := andi main_v13 main_v17
  main_v18

def fn {F : FTy → Type} [FloatOps F] (main_arg0 : FVec F S4096x2 .f32) (main_arg1 : FVec F S4096x128 .f32) (main_arg2 : FVec F S2500x2x128 .f32) (main_arg3 : FVec F S2500x2 .f32) : IVec S_ 1 :=
  let main_v0 : FVec F S4096x2 .f32 := Host.absf main_arg0
  let main_cst : FVec F S_ .f32 := constant S_ .f32 0x5CDE0B6B#32
  let main_v1 : FVec F S4096x2 .f32 := broadcastInDim S4096x2 ![] bcast_S_S4096x2 main_cst
  let main_v2 : IVec S4096x2 1 := cmpf .ole main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096x128 .f32 := Host.absf main_arg1
  let main_cst_0 : FVec F S_ .f32 := constant S_ .f32 0x4CBEBC20#32
  let main_v5 : FVec F S4096x128 .f32 := broadcastInDim S4096x128 ![] bcast_S_S4096x128 main_cst_0
  let main_v6 : IVec S4096x128 1 := cmpf .ole main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S2500x2x128 .f32 := Host.absf main_arg2
  let main_cst_2 : FVec F S_ .f32 := constant S_ .f32 0x4B189680#32
  let main_v10 : FVec F S2500x2x128 .f32 := broadcastInDim S2500x2x128 ![] bcast_S_S2500x2x128 main_cst_2
  let main_v11 : IVec S2500x2x128 1 := cmpf .ole main_v9 main_v10
  let main_c_3 : IVec S_ 1 := constantI S_ 1 1#1
  let main_v12 : IVec S_ 1 := (fun x v => Host.reduce IntOp.andi x v reducesTo_S2500x2x128_S_d0_1_2 h_S_) main_v11 main_c_3
  let main_v13 : IVec S_ 1 := andi main_v8 main_v12
  let main_v14 : FVec F S2500x2 .f32 := Host.absf main_arg3
  let main_cst_4 : FVec F S_ .f32 := constant S_ .f32 0x5CDE0B6B#32
  let main_v15 : FVec F S2500x2 .f32 := broadcastInDim S2500x2 ![] bcast_S_S2500x2 main_cst_4
  let main_v16 : IVec S2500x2 1 := cmpf .ole main_v14 main_v15
  fn_part1 (F := F) main_v13 main_v16
-- ==== Pre_in_grid.lean ====
abbrev S4096 : Shape := ⟨1, ![4096]⟩
abbrev S2500x2 : Shape := ⟨2, ![2500, 2]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S2500x2 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 2500#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Gather.lean ====
abbrev S4096 : Shape := ⟨1, ![4096]⟩
abbrev S2500x2 : Shape := ⟨2, ![2500, 2]⟩
abbrev S_ : Shape := ⟨0, ![]⟩
abbrev S2500x128 : Shape := ⟨2, ![2500, 128]⟩
abbrev S4096x128 : Shape := ⟨2, ![4096, 128]⟩
abbrev S128 : Shape := ⟨1, ![128]⟩
abbrev S128x128 : Shape := ⟨2, ![128, 128]⟩
abbrev S4096x2 : Shape := ⟨2, ![4096, 2]⟩

abbrev nBuf : Table → Nat
  | .hbm => 7
  | .local .scVector .vmem => 2
  | _ => 0

abbrev bufTy : (tb : Table) → Fin (nBuf tb) → BufTy
  | .hbm, ⟨0, _⟩ => ⟨S4096, .i32⟩
  | .hbm, ⟨1, _⟩ => ⟨S2500x2, .f32⟩
  | .hbm, ⟨2, _⟩ => ⟨S_, .i32⟩
  | .hbm, ⟨3, _⟩ => ⟨S_, .f32⟩
  | .hbm, ⟨4, _⟩ => ⟨S2500x128, .f32⟩
  | .hbm, ⟨5, _⟩ => ⟨S4096x128, .f32⟩
  | .hbm, ⟨6, _⟩ => ⟨S4096x2, .f32⟩
  | .local .scVector .vmem, ⟨0, _⟩ => ⟨S128, .i32⟩
  | .local .scVector .vmem, ⟨1, _⟩ => ⟨S128x128, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg0_scv : Ref sig .scVector := ⟨.hbm, 0, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S4096 : Shape := ⟨1, ![4096]⟩
abbrev S2500x2 : Shape := ⟨2, ![2500, 2]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x2 : Shape := ⟨2, ![4096, 2]⟩

abbrev nBuf : Space → Nat
  | .hbm => 25
  | .vmem => 0
  | .smem => 0
  | _ => 0

abbrev bufTy : (tb : Table) → Fin (tcTables nBuf tb) → BufTy
  | .hbm, ⟨0, _⟩ => ⟨S4096, .i32⟩
  | .hbm, ⟨1, _⟩ => ⟨S2500x2, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4096x2, .f32⟩
  | .hbm, ⟨21, _⟩ => ⟨S4096x2, .i1⟩
  | .hbm, ⟨22, _⟩ => ⟨S_, .f32⟩
  | .hbm, ⟨23, _⟩ => ⟨S4096x2, .f32⟩
  | .hbm, ⟨24, _⟩ => ⟨S4096x2, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Nearest.lean ====
abbrev S4096x2 : Shape := ⟨2, ![4096, 2]⟩
abbrev S4096x128 : Shape := ⟨2, ![4096, 128]⟩
abbrev S2500x2x128 : Shape := ⟨3, ![2500, 2, 128]⟩
abbrev S2500x2 : Shape := ⟨2, ![2500, 2]⟩
abbrev S128x2x2500 : Shape := ⟨3, ![128, 2, 2500]⟩
abbrev S_ : Shape := ⟨0, ![]⟩
abbrev S128x2x2560 : Shape := ⟨3, ![128, 2, 2560]⟩
abbrev S128x5120 : Shape := ⟨2, ![128, 5120]⟩
abbrev S2x2500 : Shape := ⟨2, ![2, 2500]⟩
abbrev S2x2560 : Shape := ⟨2, ![2, 2560]⟩
abbrev S1x5120 : Shape := ⟨2, ![1, 5120]⟩
abbrev S16x1x256 : Shape := ⟨3, ![16, 1, 256]⟩
abbrev S256x128 : Shape := ⟨2, ![256, 128]⟩
abbrev S256x2 : Shape := ⟨2, ![256, 2]⟩
abbrev S1x1x256 : Shape := ⟨3, ![1, 1, 256]⟩
abbrev S256x5120 : Shape := ⟨2, ![256, 5120]⟩
abbrev S256x2560 : Shape := ⟨2, ![256, 2560]⟩
abbrev S256x1 : Shape := ⟨2, ![256, 1]⟩
abbrev S256 : Shape := ⟨1, ![256]⟩

abbrev nBuf : Space → Nat
  | .hbm => 15
  | .vmem => 8
  | .smem => 0
  | _ => 0

abbrev bufTy : (tb : Table) → Fin (tcTables nBuf tb) → BufTy
  | .hbm, ⟨0, _⟩ => ⟨S4096x2, .f32⟩
  | .hbm, ⟨1, _⟩ => ⟨S4096x128, .f32⟩
  | .hbm, ⟨2, _⟩ => ⟨S2500x2x128, .f32⟩
  | .hbm, ⟨3, _⟩ => ⟨S2500x2, .f32⟩
  | .hbm, ⟨4, _⟩ => ⟨S128x2x2500, .f32⟩
  | .hbm, ⟨5, _⟩ => ⟨S_, .i32⟩
  | .hbm, ⟨6, _⟩ => ⟨S_, .f32⟩
  | .hbm, ⟨7, _⟩ => ⟨S128x2x2560, .f32⟩
  | .hbm, ⟨8, _⟩ => ⟨S128x5120, .f32⟩
  | .hbm, ⟨9, _⟩ => ⟨S2x2500, .f32⟩
  | .hbm, ⟨10, _⟩ => ⟨S_, .f32⟩
  | .hbm, ⟨11, _⟩ => ⟨S_, .f32⟩
  | .hbm, ⟨12, _⟩ => ⟨S2x2560, .f32⟩
  | .hbm, ⟨13, _⟩ => ⟨S1x5120, .f32⟩
  | .hbm, ⟨14, _⟩ => ⟨S16x1x256, .i32⟩
  | .local _ .vmem, ⟨0, _⟩ => ⟨S256x128, .f32⟩
  | .local _ .vmem, ⟨1, _⟩ => ⟨S256x128, .f32⟩
  | .local _ .vmem, ⟨2, _⟩ => ⟨S128x5120, .f32⟩
  | .local _ .vmem, ⟨3, _⟩ => ⟨S1x5120, .f32⟩
  | .local _ .vmem, ⟨4, _⟩ => ⟨S256x2, .f32⟩
  | .local _ .vmem, ⟨5, _⟩ => ⟨S256x2, .f32⟩
  | .local _ .vmem, ⟨6, _⟩ => ⟨S1x1x256, .i32⟩
  | .local _ .vmem, ⟨7, _⟩ => ⟨S1x1x256, .i32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NearestRefIdeal.lean ====
abbrev S4096x2 : Shape := ⟨2, ![4096, 2]⟩
abbrev S4096x128 : Shape := ⟨2, ![4096, 128]⟩
abbrev S2500x2x128 : Shape := ⟨3, ![2500, 2, 128]⟩
abbrev S2500x2 : Shape := ⟨2, ![2500, 2]⟩
abbrev S4096x2500x2 : Shape := ⟨3, ![4096, 2500, 2]⟩
abbrev S1x2500x2 : Shape := ⟨3, ![1, 2500, 2]⟩
abbrev S4096x1x2 : Shape := ⟨3, ![4096, 1, 2]⟩
abbrev S_ : Shape := ⟨0, ![]⟩
abbrev S4096x2500 : Shape := ⟨2, ![4096, 2500]⟩
abbrev S4096 : Shape := ⟨1, ![4096]⟩
abbrev S16x1x256 : Shape := ⟨3, ![16, 1, 256]⟩

abbrev nBuf : Space → Nat
  | .hbm => 21
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S4096x128, .f32⟩
  | .hbm, ⟨2, _⟩ => ⟨S2500x2x128, .f32⟩
  | .hbm, ⟨3, _⟩ => ⟨S2500x2, .f32⟩
  | .hbm, ⟨4, _⟩ => ⟨S4096x2500x2, .f32⟩
  | .hbm, ⟨5, _⟩ => ⟨S1x2500x2, .f32⟩
  | .hbm, ⟨6, _⟩ => ⟨S4096x2500x2, .f32⟩
  | .hbm, ⟨7, _⟩ => ⟨S4096x2500x2, .f32⟩
  | .hbm, ⟨8, _⟩ => ⟨S4096x1x2, .f32⟩
  | .hbm, ⟨9, _⟩ => ⟨S4096x2500x2, .f32⟩
  | .hbm, ⟨10, _⟩ => ⟨S4096x2500x2, .f32⟩
  | .hbm, ⟨11, _⟩ => ⟨S4096x2500x2, .f32⟩
  | .hbm, ⟨12, _⟩ => ⟨S_, .f32⟩
  | .hbm, ⟨13, _⟩ => ⟨S4096x2500, .f32⟩
  | .hbm, ⟨14, _⟩ => ⟨S4096x2500, .f32⟩
  | .hbm, ⟨15, _⟩ => ⟨S4096x2500, .i32⟩
  | .hbm, ⟨16, _⟩ => ⟨S_, .f32⟩
  | .hbm, ⟨17, _⟩ => ⟨S_, .i32⟩
  | .hbm, ⟨18, _⟩ => ⟨S4096, .f32⟩
  | .hbm, ⟨19, _⟩ => ⟨S4096, .i32⟩
  | .hbm, ⟨20, _⟩ => ⟨S16x1x256, .i32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v7 : Ref sig .tc := ⟨.hbm, 14, rfl⟩
abbrev main_call1_v0 : Ref sig .tc := ⟨.hbm, 15, rfl⟩
abbrev main_call1_cst : Ref sig .tc := ⟨.hbm, 16, rfl⟩
abbrev main_call1_c : Ref sig .tc := ⟨.hbm, 17, rfl⟩
abbrev main_call1_v1_0 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== KernelIdeal.lean ====
abbrev S4096x2 : Shape := ⟨2, ![4096, 2]⟩
abbrev S4096x128 : Shape := ⟨2, ![4096, 128]⟩
abbrev S2500x2x128 : Shape := ⟨3, ![2500, 2, 128]⟩
abbrev S2500x2 : Shape := ⟨2, ![2500, 2]⟩
abbrev S128x2x2500 : Shape := ⟨3, ![128, 2, 2500]⟩
abbrev S_ : Shape := ⟨0, ![]⟩
abbrev S128x2x2560 : Shape := ⟨3, ![128, 2, 2560]⟩
abbrev S128x5120 : Shape := ⟨2, ![128, 5120]⟩
abbrev S2x2500 : Shape := ⟨2, ![2, 2500]⟩
abbrev S2x2560 : Shape := ⟨2, ![2, 2560]⟩
abbrev S1x5120 : Shape := ⟨2, ![1, 5120]⟩
abbrev S16x1x256 : Shape := ⟨3, ![16, 1, 256]⟩
abbrev S256x128 : Shape := ⟨2, ![256, 128]⟩
abbrev S256x2 : Shape := ⟨2, ![256, 2]⟩
abbrev S1x1x256 : Shape := ⟨3, ![1, 1, 256]⟩
abbrev S256x5120 : Shape := ⟨2, ![256, 5120]⟩
abbrev S256x2560 : Shape := ⟨2, ![256, 2560]⟩
abbrev S256x1 : Shape := ⟨2, ![256, 1]⟩
abbrev S256 : Shape := ⟨1, ![256]⟩
abbrev S4096 : Shape := ⟨1, ![4096]⟩
abbrev S2500x128 : Shape := ⟨2, ![2500, 128]⟩
abbrev S128 : Shape := ⟨1, ![128]⟩
abbrev S128x128 : Shape := ⟨2, ![128, 128]⟩

abbrev nBuf : Table → Nat
  | .hbm => 22
  | .local .tc .vmem => 8
  | .local .scVector .vmem => 2
  | _ => 0

abbrev bufTy : (tb : Table) → Fin (nBuf tb) → BufTy
  | .hbm, ⟨0, _⟩ => ⟨S4096x2, .f32⟩
  | .hbm, ⟨1, _⟩ => ⟨S4096x128, .f32⟩
  | .hbm, ⟨2, _⟩ => ⟨S2500x2x128, .f32⟩
  | .hbm, ⟨3, _⟩ => ⟨S2500x2, .f32⟩
  | .hbm, ⟨4, _⟩ => ⟨S2500x2, .f32⟩
  | .hbm, ⟨5, _⟩ => ⟨S128x2x2500, .f32⟩
  | .hbm, ⟨6, _⟩ => ⟨S_, .i32⟩
  | .hbm, ⟨7, _⟩ => ⟨S_, .f32⟩
  | .hbm, ⟨8, _⟩ => ⟨S128x2x2560, .f32⟩
  | .hbm, ⟨9, _⟩ => ⟨S128x5120, .f32⟩
  | .hbm, ⟨10, _⟩ => ⟨S2x2500, .f32⟩
  | .hbm, ⟨11, _⟩ => ⟨S_, .f32⟩
  | .hbm, ⟨12, _⟩ => ⟨S_, .f32⟩
  | .hbm, ⟨13, _⟩ => ⟨S2x2560, .f32⟩
  | .hbm, ⟨14, _⟩ => ⟨S1x5120, .f32⟩
  | .hbm, ⟨15, _⟩ => ⟨S16x1x256, .i32⟩
  | .hbm, ⟨16, _⟩ => ⟨S4096, .i32⟩
  | .hbm, ⟨17, _⟩ => ⟨S_, .i32⟩
  | .hbm, ⟨18, _⟩ => ⟨S_, .f32⟩
  | .hbm, ⟨19, _⟩ => ⟨S2500x128, .f32⟩
  | .hbm, ⟨20, _⟩ => ⟨S4096x128, .f32⟩
  | .hbm, ⟨21, _⟩ => ⟨S4096x2, .f32⟩
  | .local .tc .vmem, ⟨0, _⟩ => ⟨S256x128, .f32⟩
  | .local .tc .vmem, ⟨1, _⟩ => ⟨S256x128, .f32⟩
  | .local .tc .vmem, ⟨2, _⟩ => ⟨S128x5120, .f32⟩
  | .local .tc .vmem, ⟨3, _⟩ => ⟨S1x5120, .f32⟩
  | .local .tc .vmem, ⟨4, _⟩ => ⟨S256x2, .f32⟩
  | .local .tc .vmem, ⟨5, _⟩ => ⟨S256x2, .f32⟩
  | .local .tc .vmem, ⟨6, _⟩ => ⟨S1x1x256, .i32⟩
  | .local .tc .vmem, ⟨7, _⟩ => ⟨S1x1x256, .i32⟩
  | .local .scVector .vmem, ⟨0, _⟩ => ⟨S128, .i32⟩
  | .local .scVector .vmem, ⟨1, _⟩ => ⟨S128x128, .f32⟩
  | _, _ => ⟨S4096x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v8_scv : Ref sig .scVector := ⟨.hbm, 19, rfl⟩
abbrev main_v7_scv : Ref sig .scVector := ⟨.hbm, 16, rfl⟩
abbrev main_v9_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2 : Shape := ⟨2, ![4096, 2]⟩
abbrev S4096x128 : Shape := ⟨2, ![4096, 128]⟩
abbrev S2500x2x128 : Shape := ⟨3, ![2500, 2, 128]⟩
abbrev S2500x2 : Shape := ⟨2, ![2500, 2]⟩
abbrev S4096x2500x2 : Shape := ⟨3, ![4096, 2500, 2]⟩
abbrev S1x2500x2 : Shape := ⟨3, ![1, 2500, 2]⟩
abbrev S4096x1x2 : Shape := ⟨3, ![4096, 1, 2]⟩
abbrev S_ : Shape := ⟨0, ![]⟩
abbrev S4096x2500 : Shape := ⟨2, ![4096, 2500]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S4096x128, .f32⟩
  | .hbm, ⟨2, _⟩ => ⟨S2500x2x128, .f32⟩
  | .hbm, ⟨3, _⟩ => ⟨S2500x2, .f32⟩
  | .hbm, ⟨4, _⟩ => ⟨S2500x2, .f32⟩
  | .hbm, ⟨5, _⟩ => ⟨S4096x2500x2, .f32⟩
  | .hbm, ⟨6, _⟩ => ⟨S1x2500x2, .f32⟩
  | .hbm, ⟨7, _⟩ => ⟨S4096x2500x2, .f32⟩
  | .hbm, ⟨8, _⟩ => ⟨S4096x2500x2, .f32⟩
  | .hbm, ⟨9, _⟩ => ⟨S4096x1x2, .f32⟩
  | .hbm, ⟨10, _⟩ => ⟨S4096x2500x2, .f32⟩
  | .hbm, ⟨11, _⟩ => ⟨S4096x2500x2, .f32⟩
  | .hbm, ⟨12, _⟩ => ⟨S4096x2500x2, .f32⟩
  | .hbm, ⟨13, _⟩ => ⟨S_, .f32⟩
  | .hbm, ⟨14, _⟩ => ⟨S4096x2500, .f32⟩
  | .hbm, ⟨15, _⟩ => ⟨S4096x2500, .f32⟩
  | .hbm, ⟨16, _⟩ => ⟨S4096x2500, .i32⟩
  | .hbm, ⟨17, _⟩ => ⟨S_, .f32⟩
  | .hbm, ⟨18, _⟩ => ⟨S_, .i32⟩
  | .hbm, ⟨19, _⟩ => ⟨S4096, .f32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S1, .i32⟩
  | .hbm, ⟨30, _⟩ => ⟨S_, .i32⟩
  | .hbm, ⟨31, _⟩ => ⟨S4096x1, .i32⟩
  | .hbm, ⟨32, _⟩ => ⟨S4096x1, .i1⟩
  | .hbm, ⟨33, _⟩ => ⟨S1x1, .i32⟩
  | .hbm, ⟨34, _⟩ => ⟨S4096x1, .i32⟩
  | .hbm, ⟨35, _⟩ => ⟨S4096x1, .i1⟩
  | .hbm, ⟨36, _⟩ => ⟨S4096x1, .i1⟩
  | .hbm, ⟨37, _⟩ => ⟨S_, .i1⟩
  | .hbm, ⟨38, _⟩ => ⟨S4096, .i1⟩
  | .hbm, ⟨39, _⟩ => ⟨S4096x2, .f32⟩
  | .hbm, ⟨40, _⟩ => ⟨S4096x2, .i1⟩
  | .hbm, ⟨41, _⟩ => ⟨S_, .f32⟩
  | .hbm, ⟨42, _⟩ => ⟨S4096x2, .f32⟩
  | .hbm, ⟨43, _⟩ => ⟨S4096x2, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v7 : Ref sig .tc := ⟨.hbm, 15, rfl⟩
abbrev main_call1_v0 : Ref sig .tc := ⟨.hbm, 16, rfl⟩
abbrev main_call1_cst : Ref sig .tc := ⟨.hbm, 17, rfl⟩
abbrev main_call1_c : Ref sig .tc := ⟨.hbm, 18, rfl⟩
abbrev main_call1_v1_0 : Ref sig .tc := ⟨.hbm, 19, rfl⟩
abbrev main_v8 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_c_1 : Ref sig .tc := ⟨.hbm, 29, rfl⟩
abbrev main_call2_c_2 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_3 : Ref sig .tc := ⟨.hbm, 37, rfl⟩
abbrev main_call2_v12 : Ref sig .tc := ⟨.hbm, 38, rfl⟩
abbrev main_call2_v13 : Ref sig .tc := ⟨.hbm, 39, rfl⟩
abbrev main_call2_v14 : Ref sig .tc := ⟨.hbm, 40, rfl⟩
abbrev main_call2_cst : Ref sig .tc := ⟨.hbm, 41, rfl⟩
abbrev main_call2_v15 : Ref sig .tc := ⟨.hbm, 42, rfl⟩
abbrev main_v9 : Ref sig .tc := ⟨.hbm, 43, rfl⟩

abbrev nD : Nat := 1
abbrev τ : Topo := Topo.v7x

variable {F : FTy → Type} [FloatOps F]
-- ==== Proof.RowLookup.lean ====
/-
  What the SparseCore call computes, as a function of its two operands and of nothing else: row `r` of the result is the
  row of the table that the `r`-th index names. `lookup` is that function; it is total (an index past the table reads the
  table's last row), and every theorem that uses it asks the indices to be in range.
-/
module

public import Idealize.ShloMosaic.PureOps
public import Idealize.ShloMosaic.Lib.Pointwise
public import Idealize.ShloMosaic.Lib.SparseCore.Stream

@[expose] public section

noncomputable section

namespace Cert.Proof

open Idealize.ShloMosaic

/-- The row of a 2500-row table that a 32-bit word names, read as an unsigned number. -/
def rowOfWord (w : BitVec 32) : Fin 2500 := ⟨min w.toNat 2499, by omega⟩

/-- A word in range names the row of its own number. -/
theorem rowOfWord_val {w : BitVec 32} (h : w.toNat < 2500) : (rowOfWord w).val = w.toNat := by
  show min w.toNat 2499 = w.toNat
  omega

/-- The table's rows in the order the indices name them. -/
def lookup {α : Type} (x : (⟨1, ![4096]⟩ : Shape).Idx → BitVec 32) (t : (⟨2, ![2500, 128]⟩ : Shape).Idx → α) :
    (⟨2, ![4096, 128]⟩ : Shape).Idx → α :=
  fun j => t (ix2 (rowOfWord (x (ix1 (j 0)))) (j 1))

/-- A list of 128 words read in row-major order is read by its only coordinate. -/
theorem rowMajor_symm_128 (k : Fin (⟨1, ![128]⟩ : Shape).numel) (k' : Fin 128) (h : k.val = k'.val) :
    (⟨1, ![128]⟩ : Shape).rowMajor.symm k = ix1 k' := by
  rw [Equiv.symm_apply_eq]
  apply Fin.ext
  rw [Shape.rowMajor_val_one, h]
  rfl

end Cert.Proof

end
-- ==== Proof.GatherIdealSc.lean ====
/-
  The SparseCore call of `gather` at real-number floats: two SparseCores of sixteen tiles, thirty-two tasks in all. Task `w` (tile `s` of core
  `c`, `w = 2 s + c`) fetches words `128 w … 128 w + 127` of the index array, gathers the rows of the table that they
  name into its row buffer by one indirect stream, and writes the buffer to the same rows of the output. This module
  proves one task (`task_run`) and the launch's obligations from it, for ANY contents `X` of the index array with every
  word below 2500 and `Tb` of the table: the output ends at `lookup X Tb`. Each task owns its part of the indices and of
  the output, and one of thirty-two shares of the table.
-/
module

public import proofs.«01_k».proof.Defs
public import proofs.«01_k».proof.Proof.RowLookup
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherIdealSc

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no buffer of a SparseCore is shared by its tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays and the two scratch buffers -/

abbrev iLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1

abbrev iV : Memref sig Kind.scVector Space.hbm S4096 EltTy.i32 := Memref.whole main_arg0_scv
abbrev tV : Memref sig Kind.scVector Space.hbm S2500x128 EltTy.f32 := Memref.whole main_v0_scv
abbrev oV : Memref sig Kind.scVector Space.hbm S4096x128 EltTy.f32 := Memref.whole main_v1_scv
abbrev wordsV : Memref sig Kind.scVector Space.vmem S128 EltTy.i32 := Memref.whole cc0_scratch0
abbrev rowsV : Memref sig Kind.scVector Space.vmem S128x128 EltTy.f32 := Memref.whole cc0_scratch1

theorem idiv : 32 ∣ S4096.size 0 := ⟨128, rfl⟩
theorem odiv : 32 ∣ S4096x128.size 0 := ⟨128, rfl⟩
abbrev iPart (w : Fin 32) : Rect S4096 := Rect.part (s := S4096) (a₀ := 0) idiv w
abbrev oPart (w : Fin 32) : Rect S4096x128 := Rect.part (s := S4096x128) (a₀ := 0) odiv w
abbrev iSet (w : Fin 32) : Finset S4096.Idx := ((iV).view.slice (iPart w)).set
abbrev oSet (w : Fin 32) : Finset S4096x128.Idx := ((oV).view.slice (oPart w)).set

/-- Task `w`'s share of the table. -/
abbrev share (w : Fin 32) : PosShare TreeShare := Idealize.ShloMosaic.pieceOf fullShare 32 (by decide) w

/-- The task of tile `s` on core `c`. -/
def task (c : Fin 2) (s : Fin 16) : Fin 32 := ⟨2 * s.val + c.val, by omega⟩

/-! ## What the arrays hold at the call, and what the handshakes carry -/

-- The contents of the index array, and of the table, when the call is made.
variable (X : (d : Dev nD) → Buf (Elt F) (iLoc d)) (Tb : (d : Dev nD) → Buf (Elt F) (tLoc d))

/-- Every word of the index array names a row of the table. -/
def InRange : Prop := ∀ (d : Dev nD) (j : S4096.Idx), (show BitVec 32 from X d j).toNat < 2500

/-- The output after the call. -/
def Out (d : Dev nD) : Buf (Elt F) (oLoc d) := lookup (α := Elt F .f32) (X d) (Tb d)

abbrev iPts (d : Dev nD) (w : Fin 32) : sProp 𝕄 := iLoc d ↦[iSet w]{fullShare} X d
abbrev tPts (d : Dev nD) (w : Fin 32) : sProp 𝕄 := tLoc d ↦{share w} Tb d
abbrev oPts (d : Dev nD) (w : Fin 32) (f : Buf (Elt F) (oLoc d)) : sProp 𝕄 := oLoc d ↦[oSet w]{fullShare} f

/-- What task `w` starts from, -/
abbrev taskIn (d : Dev nD) (w : Fin 32) : sProp 𝕄 := iprop(iPts X d w ∗ tPts Tb d w ∗ ∃ f, oPts d w f)
/-- and what it leaves: its part of the output at the rows its words name. -/
abbrev taskOut (d : Dev nD) (w : Fin 32) : sProp 𝕄 := iprop(iPts X d w ∗ tPts Tb d w ∗ oPts d w (Out X Tb d))

theorem nSub_zero : (K (F := F)).nSub 0 = 16 := rfl
theorem nCore_zero : (K (F := F)).nCore 0 = 2 := rfl
abbrev taskK (c : Fin ((K (F := F)).nCore 0)) (s : Fin ((K (F := F)).nSub 0)) : Fin 32 :=
  task (Fin.cast (nCore_zero (F := F)) c) (Fin.cast (nSub_zero (F := F)) s)

/-- The payloads: a core is handed its sixteen tasks' holdings and hands back their results; a tile its own. -/
def P : (K (F := F)).Pay (nD := nD) (Val := Elt F) (Name := ℕ) (U := UU) where
  st := fun q d c => match q with | 0 => bigSep Finset.univ fun s => taskIn X Tb d (taskK c s)
  dn := fun q d c => match q with | 0 => bigSep Finset.univ fun s => taskOut X Tb d (taskK c s)
  go := fun q d c s => match q with | 0 => taskIn X Tb d (taskK c s)
  td := fun q d c s => match q with | 0 => taskOut X Tb d (taskK c s)
  x := fun _ _ => iprop(emp)

instance P_storable : (P (F := F) X Tb).IsStorable where
  st q d c := match q with
    | 0 => (inferInstance : BI.Storable (upEmb : UEmb _ 𝕄) (bigSep Finset.univ fun s => taskIn X Tb d (taskK c s)))
  dn q d c := match q with
    | 0 => (inferInstance : BI.Storable (upEmb : UEmb _ 𝕄) (bigSep Finset.univ fun s => taskOut X Tb d (taskK c s)))
  go q d c s := match q with
    | 0 => (inferInstance : BI.Storable (upEmb : UEmb _ 𝕄) (taskIn X Tb d (taskK c s)))
  td q d c s := match q with
    | 0 => (inferInstance : BI.Storable (upEmb : UEmb _ 𝕄) (taskOut X Tb d (taskK c s)))

/-! ## One task -/

section Tile

variable (d : Dev nD) (L : grid0.Coords)

abbrev cV (L : grid0.Coords) : Fin τ.nSC := (L 0).castLE hcore0
abbrev sV (L : grid0.Coords) : Fin τ.nSub := (L 1).castLE hsub0
/-- The task at a grid point. -/
abbrev wL (L : grid0.Coords) : Fin 32 := ⟨2 * (L 1).val + (L 0).val, by
  have h1 : (L 1).val < 16 := (L 1).isLt
  have h0 : (L 0).val < 2 := (L 0).isLt
  omega⟩

/-- The task's words and its rows of the output, and the whole table, as the kernel slices them. -/
abbrev iSl (L : grid0.Coords) : Memref sig .scVector .hbm S128 .i32 := (iV).slice (Rect.unit (s := S4096) (k0_off1 L) S128.size (k0_off1_inb L)) (fun _ => rfl)
abbrev oSl (L : grid0.Coords) : Memref sig .scVector .hbm S128x128 .f32 := (oV).slice (Rect.unit (s := S4096x128) (k0_off2 L) S128x128.size (k0_off2_inb L)) (fun _ => rfl)
abbrev tAll : Memref sig .scVector .hbm S2500x128 .f32 := (tV).slice (Rect.unit (s := S2500x128) ![0, 0] S2500x128.size inb_S2500x128_S2500x128_0_0) (fun _ => rfl)

theorem iRect_eq : Rect.unit (s := S4096) (k0_off1 L) S128.size (k0_off1_inb L) = iPart (wL L) := by
  unfold iPart Rect.part Rect.block
  congr 1 <;> funext a
  · rw [k0_off1_eq]
    match a with
    | 0 => simp [Shape.partIx, Shape.partSize]; omega
  · match a with
    | 0 => simp [Shape.partSize]
theorem oRect_eq : Rect.unit (s := S4096x128) (k0_off2 L) S128x128.size (k0_off2_inb L) = oPart (wL L) := by
  unfold oPart Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_iSl : (iSl L).view.set = iSet (wL L) := by
  show ((iV).view.slice (Rect.unit (s := S4096) (k0_off1 L) S128.size (k0_off1_inb L))).set = _
  rw [iRect_eq]
theorem set_oSl : (oSl L).view.set = oSet (wL L) := by
  show ((oV).view.slice (Rect.unit (s := S4096x128) (k0_off2 L) S128x128.size (k0_off2_inb L))).set = _
  rw [oRect_eq]

theorem pts_iSl (f : Buf (Elt F) (iLoc d)) :
    ((iSl L).view.loc (V d (cV L) (sV L)) ↦[(iSl L).view.set]{fullShare} f : sProp 𝕄) = iLoc d ↦[iSet (wL L)]{fullShare} f := by
  rw [set_iSl]
theorem pts_oSl (f : Buf (Elt F) (oLoc d)) :
    ((oSl L).view.loc (V d (cV L) (sV L)) ↦[(oSl L).view.set]{fullShare} f : sProp 𝕄) = oLoc d ↦[oSet (wL L)]{fullShare} f := by
  rw [set_oSl]
theorem pts_tV (q : PosShare TreeShare) (f : Buf (Elt F) (tLoc d)) :
    ((tV).view.loc (V d (cV L) (sV L)) ↦{q} f : sProp 𝕄) = tLoc d ↦{q} f := rfl
theorem pts_wordsV (f : Buf (Elt F) ((V d (cV L) (sV L)).loc cc0_scratch0)) :
    ((wordsV).view.loc (V d (cV L) (sV L)) ↦{fullShare} f : sProp 𝕄) = (V d (cV L) (sV L)).loc cc0_scratch0 ↦{fullShare} f := rfl
theorem pts_rowsV (f : Buf (Elt F) ((V d (cV L) (sV L)).loc cc0_scratch1)) :
    ((rowsV).view.loc (V d (cV L) (sV L)) ↦{fullShare} f : sProp 𝕄) = (V d (cV L) (sV L)).loc cc0_scratch1 ↦{fullShare} f := rfl

/-- The tile's three transfer semaphores: the indices' fetch, the gather, the rows' write-out. -/
abbrev cellI (d : Dev nD) (c : Fin τ.nSC) (s : Fin τ.nSub) : GSem nD τ sig := (V d c s, .dma cc0_scoped0.sem)
abbrev cellG (d : Dev nD) (c : Fin τ.nSC) (s : Fin τ.nSub) : GSem nD τ sig := (V d c s, .dma cc0_scratch2.sem)
abbrev cellO (d : Dev nD) (c : Fin τ.nSC) (s : Fin τ.nSub) : GSem nD τ sig := (V d c s, .dma cc0_scoped1.sem)

/-- The tile's own semaphores are those three and the rest. -/
theorem ownSems0_split :
    (ownSems0 (V d (cV L) (sV L)) : sProp 𝕄)
      = iprop(semVal (cellI d (cV L) (sV L)) 0 ∗ semVal (cellG d (cV L) (sV L)) 0 ∗ semVal (cellO d (cV L) (sV L)) 0
          ∗ bigSep ((((ownCells (V d (cV L) (sV L))).erase (cellI d (cV L) (sV L))).erase (cellG d (cV L) (sV L))).erase (cellO d (cV L) (sV L))) fun g => semVal g 0) := by
  unfold SparseCore.Cfg.ownSems0
  rw [SparseCore.bigSep_erase' ((mem_ownCells (g := cellI d (cV L) (sV L))).mpr ⟨rfl, by
      show (SemLoc.dma cc0_scoped0.sem : SemLoc sig).isScoped .scVector = true; decide⟩),
    SparseCore.bigSep_erase' (Finset.mem_erase.mpr ⟨by simp [cellI, cellG]; decide, (mem_ownCells (g := cellG d (cV L) (sV L))).mpr ⟨rfl, by
      show (SemLoc.dma cc0_scratch2.sem : SemLoc sig).isScoped .scVector = true; decide⟩⟩),
    SparseCore.bigSep_erase' (Finset.mem_erase.mpr ⟨by simp [cellG, cellO]; decide, Finset.mem_erase.mpr ⟨by simp [cellI, cellO]; decide,
      (mem_ownCells (g := cellO d (cV L) (sV L))).mpr ⟨rfl, by show (SemLoc.dma cc0_scoped1.sem : SemLoc sig).isScoped .scVector = true; decide⟩⟩⟩)]

/-- The tile's own buffers are its two scratch buffers, at some contents, and the rest. -/
theorem ownBufs_split :
    (ownBufs (V d (cV L) (sV L)) : sProp 𝕄)
      = iprop((∃ f, (V d (cV L) (sV L)).loc cc0_scratch0 ↦{fullShare} f) ∗ (∃ f, (V d (cV L) (sV L)).loc cc0_scratch1 ↦{fullShare} f)
          ∗ bigSep (((ownRefs (τ := τ) (.scVector (cV L) (sV L))).erase ((Proc.scVector (cV L) (sV L)).devRef cc0_scratch0)).erase
              ((Proc.scVector (cV L) (sV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (sV L)) (b := (Proc.scVector (cV L) (sV L)).devRef cc0_scratch1) rfl⟩)]

/-- The words the task fetched, as its scratch buffer holds them: words `128 w …` of the index array. -/
theorem words_apply (fs : Buf (Elt F) ((V d (cV L) (sV L)).loc cc0_scratch0)) (k : Fin 128) :
    (wordsV).view.read (Elt F) (View.write (Elt F) (wordsV).view fs ((iSl L).view.read (Elt F) (X d)) Finset.univ) (ix1 k)
      = X d (ix1 ⟨256 * (L 1).val + 128 * (L 0).val + k.val, by
          have h1 : (L 1).val < 16 := (L 1).isLt
          have h0 : (L 0).val < 2 := (L 0).isLt
          omega⟩) := by
  rw [View.write_whole_univ]
  simp only [Memref.view_whole, View.read_whole]
  rw [View.read_apply, cast_eq]
  congr 1
  funext a
  match a with
  | 0 =>
    apply Fin.ext
    exact (congrArg (fun n => n + 1 * k.val) (congrFun (k0_off1_eq L) 0)).trans (by simp)

/-- Every word fetched names a row of the table. -/
theorem words_inRange (hX : InRange X) (fs : Buf (Elt F) ((V d (cV L) (sV L)).loc cc0_scratch0)) (pay : S128.Idx → Elt F .i32)
    (hpay : pay = (iSl L).view.read (Elt F) (X d)) :
    ∀ x, ((wordsV).view.read (Elt F) (View.write (Elt F) (wordsV).view fs pay Finset.univ) x).toNat < S2500x128.size gathers_S2500x128_S128x128.axis := by
  subst hpay; intro x
  have hx : x = ix1 (n0 := 128) (x 0) := eq_ix1 x
  rw [hx]
  exact (congrArg BitVec.toNat (words_apply X d L fs (x 0))).trans_lt (hX d _)

/-- What the write-out leaves at the task's rows: the table's rows that the task's words name. -/
theorem out_apply (hX : InRange X) (fs : Buf (Elt F) ((V d (cV L) (sV L)).loc cc0_scratch0)) (fr : Buf (Elt F) ((V d (cV L) (sV L)).loc cc0_scratch1))
    (fo : Buf (Elt F) (oLoc d)) (wds : S128.Idx → Elt F .i32) (hw : wds = (iSl L).view.read (Elt F) (X d)) (hn : S128.numel = S128x128.size gathers_S2500x128_S128x128.axis')
    (hin : ∀ x, ((wordsV).view.read (Elt F) (View.write (Elt F) (wordsV).view fs wds Finset.univ) x).toNat < S2500x128.size gathers_S2500x128_S128x128.axis)
    (pay : S128x128.Idx → Elt F .f32)
    (hpay : pay = (rowsV).view.read (Elt F) (View.write (Elt F) (rowsV).view fr
        (SparseCore.gatherPayload gathers_S2500x128_S128x128 ((tAll).view.read (Elt F) (Tb d))
          (SparseCore.rows ((wordsV).view.read (Elt F) (View.write (Elt F) (wordsV).view fs wds Finset.univ)) hn hin)) Finset.univ)) :
    ∀ j ∈ (oSl L).view.set, (oSl L).view.writes (Elt F) fo [⟨Rect.whole S128x128, pay⟩] j = Out X Tb d j := by
  subst hw hpay
  rw [show ∀ pay, (oSl L).view.writes (Elt F) fo [⟨Rect.whole S128x128, pay⟩] = View.write (Elt F) (oSl L).view fo pay Finset.univ from
    fun pay => ((View.write_univ_eq_writes_whole _ _ [] pay).symm.trans (by rw [View.writes_nil]))]
  intro j hj
  obtain ⟨x, -, rfl⟩ := Finset.mem_map.mp hj
  rw [View.write_emb_of_mem _ _ (Finset.mem_univ _), View.read_write_univ, cast_eq]
  unfold SparseCore.gatherPayload Out lookup
  rw [View.read_apply, cast_eq]
  have hx0 : (x 0).val < 128 := (x 0).isLt
  have e0 : ((oSl L).view.emb x 0).val = 256 * (L 1).val + 128 * (L 0).val + (x 0).val := by
    exact (congrArg (fun n => n + 1 * (x 0).val) (congrFun (k0_off2_eq L) 0)).trans (by simp)
  have e1 : ((oSl L).view.emb x 1).val = (x 1).val := by
    exact (congrArg (fun n => n + 1 * (x 1).val) (congrFun (k0_off2_eq L) 1)).trans (by simp)
  congr 1
  funext a
  apply Fin.ext
  match a with
  | 0 =>
    show 0 + 1 * (gathers_S2500x128_S128x128.idx _ x 0).val = (rowOfWord _).val
    rw [Nat.zero_add, Nat.one_mul, rowOfWord_val (hX d _)]
    refine (congrArg Fin.val (Shape.Gathers.idx_axis gathers_S2500x128_S128x128 _ x)).trans ?_
    show BitVec.toNat ((wordsV).view.read (Elt F) _ (S128.rowMajor.symm _)) = _
    refine (congrArg (fun z => BitVec.toNat ((wordsV).view.read (Elt F) (View.write (Elt F) (wordsV).view fs ((iSl L).view.read (Elt F) (X d)) Finset.univ) z))
      (rowMajor_symm_128 _ (x 0) rfl)).trans ?_
    refine (congrArg BitVec.toNat (words_apply X d L fs (x 0))).trans ?_
    exact congrArg (fun n => BitVec.toNat (X d (ix1 n))) (Fin.ext e0.symm)
  | 1 =>
    show 0 + 1 * (gathers_S2500x128_S128x128.idx _ x 1).val = ((oSl L).view.emb x 1).val
    rw [Nat.zero_add, Nat.one_mul, e1]
    exact Shape.Gathers.idx_of_ne gathers_S2500x128_S128x128 _ x 1 (by decide)

end Tile

/-! ## The arrays split among the thirty-two tasks, and join -/

theorem iSet_eq (w : Fin 32) : iSet w = (iPart w).set := by
  show ((View.whole (main_arg0_scv : Ref sig .scVector)).slice (iPart w)).set = _
  rw [View.set_slice]; exact Finset.map_refl
theorem oSet_eq (w : Fin 32) : oSet w = (oPart w).set := by
  show ((View.whole (main_v1_scv : Ref sig .scVector)).slice (oPart w)).set = _
  rw [View.set_slice]; exact Finset.map_refl

/-- The thirty-two parts cover the index array, disjointly, and so do they the output. -/
theorem iArr_eq (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun j _ j' _ hjj => by rw [iSet_eq, iSet_eq]; exact Rect.part_disjoint idiv hjj,
    (Finset.biUnion_congr rfl fun w _ => iSet_eq w).trans (Rect.biUnion_part idiv)]; try rfl
theorem oArr_eq (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun j _ j' _ hjj => by rw [oSet_eq, oSet_eq]; exact Rect.part_disjoint odiv hjj,
    (Finset.biUnion_congr rfl fun w _ => oSet_eq w).trans (Rect.biUnion_part odiv)]; try rfl
/-- The tasks counted by core and tile are the thirty-two tasks. -/
theorem tasks_eq (Φ : Fin 32 → sProp 𝕄) :
    (bigSep Finset.univ fun c : Fin ((K (F := F)).nCore 0) => bigSep Finset.univ fun s : Fin ((K (F := F)).nSub 0) => Φ (taskK c s))
      = bigSep Finset.univ Φ := by
  rw [bigSep_univ_comm, bigSep_univ_equiv (finProdFinEquiv (m := 16) (n := 2)) Φ, bigSep_univ_prod]
  exact bigSep_congr fun s _ => bigSep_congr fun c _ => congrArg Φ (Fin.ext (by
    show 2 * s.val + c.val = c.val + 2 * s.val
    omega))

/-- The three arrays, whole, are the tasks' holdings when the call is made, -/
theorem split_arrays (d : Dev nD) (f : Buf (Elt F) (oLoc d)) :
    iprop((iLoc d ↦{fullShare} X d) ∗ (tLoc d ↦{fullShare} Tb d) ∗ (oLoc d ↦{fullShare} f) : sProp 𝕄)
      ⊢ bigSep Finset.univ fun c : Fin ((K (F := F)).nCore 0) => (P X Tb).st 0 d c := by
  refine (show _ ⊢ bigSep Finset.univ (taskIn X Tb d) from ?_).trans (Entails.of_eq (tasks_eq (taskIn X Tb d)).symm)
  rw [bigSep_sep', bigSep_sep', iArr_eq, oArr_eq, pointsTo_piecesOf Finset.univ (Tb d) (o := 32) (by decide) fullShare]
  iintro ⟨Hi, Ht, Ho⟩
  isplitl [Hi]; · iexact Hi
  isplitl [Ht]; · iexact Ht
  iapply (show (bigSep Finset.univ fun w : Fin 32 => oPts d w f) ⊢ (bigSep Finset.univ fun w => iprop(∃ f, oPts d w f) : sProp 𝕄) from
    bigSep_mono fun w _ => show oPts d w f ⊢ (iprop(∃ f, oPts d w f) : sProp 𝕄) by iintro H; iexists f; iexact H)
  iexact Ho

/-- and the tasks' results are the three arrays, whole, the output at the rows that the indices name. -/
theorem join_arrays (d : Dev nD) :
    (bigSep Finset.univ fun c : Fin ((K (F := F)).nCore 0) => (P X Tb).dn 0 d c)
      ⊢ iprop((iLoc d ↦{fullShare} X d) ∗ (tLoc d ↦{fullShare} Tb d) ∗ (oLoc d ↦{fullShare} Out X Tb d) : sProp 𝕄) := by
  refine (Entails.of_eq (tasks_eq (taskOut X Tb d))).trans ?_
  rw [bigSep_sep', bigSep_sep', iArr_eq, oArr_eq, pointsTo_piecesOf Finset.univ (Tb d) (o := 32) (by decide) fullShare]

end Cert.Proof.GatherIdealSc

end
-- ==== Proof.GatherIdealTask.lean ====
/-
  One task of the SparseCore call of `gather` at real-number floats, run through (`task_run`), and the launch's obligations from it.
-/
module

public import proofs.«01_k».proof.Defs
public import proofs.«01_k».proof.Proof.GatherIdealSc
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherIdealSc

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (X : (d : Dev nD) → Buf (Elt F) (iLoc d)) (Tb : (d : Dev nD) → Buf (Elt F) (tLoc d))
variable (d : Dev nD) (L : grid0.Coords)
variable [FloatOps F]

set_option maxHeartbeats 4000000 in
/-- One task, from its holdings to its result: the words' fetch and its wait, the indirect gather of the rows they name
    and its wait, the rows' write-out and its wait. -/
theorem task_run (hF : (K (F := F)).Facts) (hX : InRange X) (O : CellTallies nD τ sig (HIx 1)) (W : Waits sig (HIx 1)) (hO : ∀ g, O g none = 0) :
    iprop(levAts (K (F := F)).L (K (F := F)).lev ∗ emp
        ∗ taskIn X Tb d (wL L)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc0_gather_kernel L tV (Memref.isWhole_whole _) iV (Memref.isWhole_whole _) oV (Memref.isWhole_whole _)
            wordsV (Memref.isWhole_whole _) rowsV (Memref.isWhole_whole _) cc0_scratch2 cc0_scoped0 cc0_scoped1)
          fun _ => iprop(taskOut X Tb d (wL L)
            ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc0_gather_kernel_eq_skeleton]; unfold cc0_gather_kernel_skel
  rw [(K (F := F)).scopedBufs_V hF d (cV L) (sV L), SparseCore.Cfg.scopedSems0_V (Val := Elt F) d (cV L) (sV L), ownSems0_split, ownBufs_split]
  iintro ⟨#Hlv, -, ⟨Hi, Ht, %fo, Ho⟩, ⟨⟨%fs, Hs⟩, ⟨%fr, Hr⟩, Hbufs⟩, ⟨HsemI, HsemG, HsemO, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Hi' := (Entails.of_eq (pts_iSl (F := F) d L _).symm) $$ Hi
  ihave Ho' := (Entails.of_eq (pts_oSl (F := F) d L _).symm) $$ Ho
  ihave Ht' := (Entails.of_eq (pts_tV (F := F) d L _ _).symm) $$ Ht
  ihave Hs' := (Entails.of_eq (pts_wordsV (F := F) d L _).symm) $$ Hs
  ihave Hr' := (Entails.of_eq (pts_rowsV (F := F) d L _).symm) $$ Hr
  sl_exec
  -- the stream takes the elements of the table that its slice names, the row buffer, and the list's buffer whole
  ihave Hts := (pointsTo_split_subset (q := share (wL L)) (f := Tb d) (S := Finset.univ) (Finset.subset_univ (tAll).view.set)).1 $$ Ht'
  icases Hts with ⟨Hts, Htr⟩
  have hrs : (rowsV).view.set = Finset.univ := View.set_whole _
  have hss : (wordsV).view.set = Finset.univ := View.set_whole _
  ihave Hr'' := (Entails.of_eq (show ((rowsV).view.loc (V d (cV L) (sV L)) ↦{fullShare} fr : sProp 𝕄)
      = (rowsV).view.loc (V d (cV L) (sV L)) ↦[(rowsV).view.set]{fullShare} fr by rw [hrs])) $$ Hr'
  ihave Hs'' := (Entails.of_eq (show ((wordsV).view.loc (V d (cV L) (sV L)) ↦{fullShare} View.write (Elt F) (wordsV).view fs (task_run.sl.dma0 X d L) Finset.univ : sProp 𝕄)
      = (wordsV).view.loc (V d (cV L) (sV L)) ↦[(wordsV).view.set]{fullShare} View.write (Elt F) (wordsV).view fs (task_run.sl.dma0 X d L) Finset.univ
      by rw [hss])) $$ Hs'
  have hN : ∀ h : S2500x128.Gathers 0 S128x128, ∑ j, ((rowsV).slice (S128x128.rowRect h.axis' j) (S128x128.stride_rowRect h.axis' j)).view.dmaCredit
      = (rowsV).view.dmaCredit := by decide
  iapply (SparseCore.wp_indirectGatherLocal countersEmb 𝒱₀ (V d (cV L) (sV L)) none (hg := gathers_S2500x128_S128x128) (default : HIx 1)
      (rowsV).view.dmaCredit (hN _) (by decide) (words_inRange X d L hX fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (sV L)) none (default : HIx 1) (rfl : (rowsV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := share (wL L)) (f := Tb d) (S := Finset.univ) (Finset.subset_univ (tAll).view.set)).2 $$ [Hts Htr]; · isplitl [Hts] <;> iassumption
  ihave Hr3 := (Entails.of_eq (show ((rowsV).view.loc (V d (cV L) (sV L)) ↦[(rowsV).view.set]{fullShare} _ : sProp 𝕄)
      = (rowsV).view.loc (V d (cV L) (sV L)) ↦{fullShare} _ by rw [hrs])) $$ Hr'
  ihave Hs3 := (Entails.of_eq (show ((wordsV).view.loc (V d (cV L) (sV L)) ↦[(wordsV).view.set]{fullShare} _ : sProp 𝕄)
      = (wordsV).view.loc (V d (cV L) (sV L)) ↦{fullShare} _ by rw [hss])) $$ Hs'
  sl_exec
  sl_step
  isplitl [Hi' Ht' Ho']
  · isplitl [Hi']; · iapply (Entails.of_eq (pts_iSl (F := F) d L _)); iexact Hi'
    isplitl [Ht']; · iexact Ht'
    iapply (Entails.of_eq (pts_oSl (F := F) d L _))
    iapply (Entails.of_eq (pointsTo_congr (out_apply X Tb d L hX fs fr fo (task_run.sl.dma0 X d L) rfl _ _ (task_run.sl.dma0_1 X Tb d L hX fs fr) rfl)))
    iexact Ho'
  isplitl [Hs3 Hr3 Hbufs]
  · isplitl [Hs3]; · iexists _; iexact Hs3
    isplitl [Hr3]; · iexists _; iexact Hr3
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligation -/

/-- The task of tile `s` on core `c`, as a grid point. -/
def coords (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coords c s)
          tV (Memref.isWhole_whole _) iV (Memref.isWhole_whole _) oV (Memref.isWhole_whole _)
          wordsV (Memref.isWhole_whole _) rowsV (Memref.isWhole_whole _) cc0_scratch2 cc0_scoped0 cc0_scoped1) ⟨⟩ c s := rfl

omit [FloatOps F] in
/-- The waits recorded before the call are among those the launch allows. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's body does its task. -/
theorem tileObl (hF : (K (F := F)).Facts) (hX : InRange X) : (K (F := F)).TileObl (D (F := F)) 𝒱 (P X Tb) v₀ 0 := by
  intro d c i O W hO _ _
  simp only [show (P X Tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_run X Tb d (coords ⟨_, hci.1⟩ ⟨_, hci.2⟩) hF hX O W hO).trans (wp_mono frame _ _ fun _ => weaken_waits)

/-- A core's holdings are its tiles' holdings, and its results are theirs. -/
theorem vecSplit : (K (F := F)).VecSplit' (P X Tb) 0 := by
  intro d c
  show (bigSep Finset.univ fun s => taskIn X Tb d (taskK c s)) ⊢ |={Set.univ}=> iprop(
      (bigSep Finset.univ fun s => taskIn X Tb d (taskK c s))
      ∗ ((bigSep Finset.univ fun s => taskOut X Tb d (taskK c s)) -∗ bigSep Finset.univ fun s => taskOut X Tb d (taskK c s)))
  iintro H; imodintro
  isplitl [H]; · iexact H
  iintro H; iexact H

end Cert.Proof.GatherIdealSc

end
-- ==== Proof.GatherIdealRun.lean ====
/-
  The program of `gather` at real-number floats, run: the host pads the table to 128 columns, the SparseCore call looks the rows up, the host
  keeps the first two columns. `run_main` states what every execution leaves: the result at `Res`, the arguments as they
  were, every semaphore counter at zero.
-/
module

public import proofs.«01_k».proof.Defs
public import proofs.«01_k».proof.Proof.GatherIdealTask
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherIdealSc

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)

variable {F : FTy → Type} [FloatOps F]

local notation "𝕄" => MT nD τ sig (HIx 1) (Elt F) ℕ UU ℕ

/-! ## The host's operations -/

/-- Before the call: the padding value and the padded table. -/
abbrev opsPad : List (HloOp τ sig (Elt F)) :=
  [ StableHlo.nullary main_c (constantI S_ 32 0#32),
    StableHlo.TRef.unary (.of (T := ⟨S_, .i32⟩) main_c) (.of (T := ⟨S_, .f32⟩) main_call0_v0) (sitofp .f32),
    StableHlo.TRef.binary (.of (T := ⟨S2500x2, .f32⟩) main_arg1) (.of (T := ⟨S_, .f32⟩) main_call0_v0) (.of (T := ⟨S2500x128, .f32⟩) main_v0)
      (fun x v => pad S2500x128 ![0, 0] ![0, 126] ![0, 0] x v pads_S2500x2_S2500x128_000_01260 h_S_) ]

/-- After the call: the first two columns. -/
abbrev opsCols : List (HloOp τ sig (Elt F)) :=
  [ StableHlo.unary main_v1 main_v2 ((extractStridedSlice S4096x2 ![0, 0] · slices_S4096x128_S4096x2_0_0) : (⟨S4096x128, .f32⟩ : BufTy).Contents (Elt F) → (⟨S4096x2, .f32⟩ : BufTy).Contents (Elt F)) ]

theorem opsPad_sub : ∀ op ∈ (opsPad : List (HloOp τ sig (Elt F))), op.bufs ⊆ Pipeline.ucRefs τ sig := fun op h =>
  Pipeline.sub_ucRefs op (List.forall_iff_forall_mem.1 (show (opsPad : List (HloOp τ sig (Elt F))).Forall fun op => op.bufs ⊆ StableHlo.tcRefs τ sig from
    ⟨StableHlo.nullary_bufs_sub .., StableHlo.unary_bufs_sub .., StableHlo.binary_bufs_sub ..⟩) op h)
theorem opsPad_fresh : ∀ op ∈ (opsPad : List (HloOp τ sig (Elt F))), op.fresh = ∅ :=
  List.forall_iff_forall_mem.1 ⟨rfl, rfl, rfl⟩
theorem opsCols_sub : ∀ op ∈ (opsCols : List (HloOp τ sig (Elt F))), op.bufs ⊆ Pipeline.ucRefs τ sig := fun op h =>
  Pipeline.sub_ucRefs op (List.forall_iff_forall_mem.1 (show (opsCols : List (HloOp τ sig (Elt F))).Forall fun op => op.bufs ⊆ StableHlo.tcRefs τ sig from
    StableHlo.unary_bufs_sub ..) op h)
theorem opsCols_fresh : ∀ op ∈ (opsCols : List (HloOp τ sig (Elt F))), op.fresh = ∅ :=
  List.forall_iff_forall_mem.1 (show (opsCols : List (HloOp τ sig (Elt F))).Forall fun op => op.fresh = ∅ from rfl)
/-- The last operation writes its result only, which it takes from the call's output. -/
theorem opsCols_ne (W : Valuation τ sig (Elt F)) {r : Ref sig .tc} (h : r ≠ main_v2) : after opsCols W (Proc.devRef .tc r) = W (Proc.devRef .tc r) := by
  rw [StableHlo.after_cons, StableHlo.after_nil]
  exact StableHlo.unary_result_ne _ _ _ _ _ _ h
theorem opsCols_result (W : Valuation τ sig (Elt F)) :
    after opsCols W (Proc.devRef .tc main_v2) = extractStridedSlice S4096x2 ![0, 0] (W (Proc.devRef .tc main_v1)) slices_S4096x128_S4096x2_0_0 := by
  rw [StableHlo.after_cons, StableHlo.after_nil]
  exact StableHlo.unary_result main_v1 main_v2 _ _ _ W

theorem main_eq (d : Dev nD) :
    main (F := F) d = (seq opsPad >>= fun _ => sc.run d 0 >>= fun _ => seq opsCols >>= fun _ => pure ⟨⟩) := rfl

variable (m : (ℓ : Loc nD τ sig) → Buf (Elt F) ℓ) (ρ : Dev nD → PrngReg)

/-- The three arrays of the call, as the device's buffers. -/
abbrev iRef : DevRef τ sig := Proc.devRef .tc main_arg0
abbrev tRef : DevRef τ sig := Proc.devRef .tc main_v0
abbrev oRef : DevRef τ sig := Proc.devRef .tc main_v1

/-- The contents of the device's arrays when the call is made, -/
abbrev atCall (d : Dev nD) : Valuation τ sig (Elt F) := after opsPad (fun b => m (d, b))
/-- the indices and the table among them, -/
abbrev X₀ (d : Dev nD) : Buf (Elt F) (iLoc d) := atCall m d iRef
abbrev Tb₀ (d : Dev nD) : Buf (Elt F) (tLoc d) := atCall m d tRef
/-- and the contents when the program ends. -/
abbrev atEnd (d : Dev nD) : Valuation τ sig (Elt F) := after opsCols (Function.update (atCall m d) oRef (Out (X₀ m) (Tb₀ m) d))

/-! ## @main -/

/-- The TensorCore's unscoped arrays are the call's three and the rest. -/
theorem held_call (d : Dev nD) (W : Valuation τ sig (Elt F)) :
    (held (SparseCore.T d) (Pipeline.ucRefs τ sig) W : sProp 𝕄)
      = iprop((iLoc d ↦{fullShare} W iRef) ∗ (tLoc d ↦{fullShare} W tRef) ∗ (oLoc d ↦{fullShare} W oRef)
          ∗ held (SparseCore.T d) ((((Pipeline.ucRefs τ sig).erase iRef).erase tRef).erase oRef) W) := by
  unfold held
  rw [SparseCore.bigSep_erase' (show iRef ∈ Pipeline.ucRefs τ sig by decide),
    SparseCore.bigSep_erase' (show tRef ∈ (Pipeline.ucRefs τ sig).erase iRef by decide),
    SparseCore.bigSep_erase' (show oRef ∈ ((Pipeline.ucRefs τ sig).erase iRef).erase tRef by decide)]

/-- Holding them after the call: the output at the call's result, the others as they were. -/
theorem held_after (d : Dev nD) (W : Valuation τ sig (Elt F)) (f : Buf (Elt F) (oLoc d)) :
    (held (SparseCore.T d) (Pipeline.ucRefs τ sig) (Function.update W oRef f) : sProp 𝕄)
      = iprop((iLoc d ↦{fullShare} W iRef) ∗ (tLoc d ↦{fullShare} W tRef) ∗ (oLoc d ↦{fullShare} f)
          ∗ held (SparseCore.T d) ((((Pipeline.ucRefs τ sig).erase iRef).erase tRef).erase oRef) W) := by
  rw [held_call, Function.update_self, Function.update_of_ne (show iRef ≠ oRef by decide), Function.update_of_ne (show tRef ≠ oRef by decide),
    StableHlo.held_congr (SparseCore.T d) (V := Function.update W oRef f) (V' := W) fun b hb => Function.update_of_ne (Finset.ne_of_mem_erase hb) _ _]

abbrev FIN (d : Dev nD) : sProp 𝕄 := held (SparseCore.T d) (Pipeline.ucRefs τ sig) (atEnd m d)

/-- @main on device `d`'s TensorCore: the padding, the call, the first two columns; every array left at `atEnd`. -/
theorem hmain (κ : GSem nD τ sig → ℕ) (d : Dev nD) :
    iprop((K (F := F)).ctx EH (P (X₀ m) (Tb₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (fun b => m (d, b)) from
    Pipeline.unscopedBufs_held d (fun b => m (d, b))]
  iintro ⟨#Hctx, Hst, ⟨Hb, Hheld, Hts, -⟩, -⟩
  iapply (StableHlo.wp_seq 𝒱 none Set.univ d (Pipeline.ucRefs τ sig) _ opsPad opsPad_sub opsPad_fresh (fun b => m (d, b))) $$ [Hb Hheld]
  · isplitl [Hb] <;> iassumption
  iintro ⟨Hb, Hheld⟩
  ihave Hh := (Entails.of_eq (held_call (F := F) d _)) $$ Hheld
  icases Hh with ⟨Hi, Ht, Ho, Hrest⟩
  rw [wp_bind]
  iapply ((K (F := F)).wp_run (D (F := F)) 𝒱 (EH := EH) (P := P (X₀ m) (Tb₀ m)) κ d 0) $$ [Hst Hi Ht Ho Hb Hrest Hts]
  isplitr; · iexact Hctx
  isplitl [Hst]; · iexact Hst
  isplitl [Hi Ht Ho]
  · iapply (split_arrays (X₀ m) (Tb₀ m) d (atCall m d oRef))
    isplitl [Hi]; · iexact Hi
    isplitl [Ht]; · iexact Ht
    iexact Ho
  iintro ⟨Hst, Hdn⟩
  ihave Hdn' := (join_arrays (X₀ m) (Tb₀ m) d) $$ Hdn
  icases Hdn' with ⟨Hi, Ht, Ho⟩
  iapply (StableHlo.wp_seq 𝒱 none Set.univ d (Pipeline.ucRefs τ sig) _ opsCols opsCols_sub opsCols_fresh
    (Function.update (atCall m d) oRef (Out (X₀ m) (Tb₀ m) d))) $$ [Hb Hi Ht Ho Hrest]
  · isplitl [Hb]; · iexact Hb
    iapply (Entails.of_eq (held_after (F := F) d (atCall m d) _).symm)
    isplitl [Hi]; · iexact Hi
    isplitl [Ht]; · iexact Ht
    isplitl [Ho]; · iexact Ho
    iexact Hrest
  iintro ⟨Hb, Hheld⟩
  rw [wp_pure]; imodintro
  isplitl [Hst]; · iexact Hst
  isplitl [Hheld]; · iexact Hheld
  isplitl [Hb] <;> iassumption

/-- What a final state of device `d` holds: every array at `atEnd`. -/
def fq (d : Dev nD) (s' : Phys nD τ sig (Elt F)) : Prop := ∀ b ∈ Pipeline.ucRefs τ sig, s'.mem.mem (d, b) = atEnd m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The launch's ghost state, and the run -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

omit [FloatOps F] in
theorem hu₀ (X : (d : Dev nD) → Buf (Elt F) (iLoc d)) (Tb : (d : Dev nD) → Buf (Elt F) (tLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Tb).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X Tb).x q thr) = bigSep Finset.univ fun _ => iprop(emp) from
    bigSep_congr fun _ _ => bigSep_univ_of_subsingleton (0 : Fin 1), bigSep_emp']
  iempintro

/-- The result: the first two columns of the padded table's rows, looked up. -/
def Res (d : Dev nD) : (⟨S4096x2, .f32⟩ : BufTy).Contents (Elt F) :=
  extractStridedSlice S4096x2 ![0, 0]
    (lookup (m ((SparseCore.T d).loc main_arg0))
      (pad S2500x128 ![0, 0] ![0, 126] ![0, 0] (m ((SparseCore.T d).loc main_arg1)) (sitofp .f32 (constantI S_ 32 0#32)) pads_S2500x2_S2500x128_000_01260 h_S_))
    slices_S4096x128_S4096x2_0_0

/-- Every index names a row of the table. -/
def IdxOK : Prop := ∀ (d : Dev nD) (j : S4096.Idx), (show BitVec 32 from m ((SparseCore.T d).loc main_arg0) j).toNat < 2500

/-- Padding leaves the arguments as they were. -/
theorem atCall_arg0 (d : Dev nD) : atCall m d iRef = m ((SparseCore.T d).loc main_arg0) := by
  simp only [atCall, opsPad, StableHlo.TRef.binary, StableHlo.TRef.unary, StableHlo.TRef.toBuf, StableHlo.TRef.ofBuf, cast_eq]
  after_results <;> rfl

theorem atEnd_arg0 (d : Dev nD) : atEnd m d iRef = m ((SparseCore.T d).loc main_arg0) := by
  refine (opsCols_ne _ (by decide)).trans ?_
  exact (Function.update_of_ne (show iRef ≠ oRef by decide) _ _).trans (atCall_arg0 m d)

theorem atEnd_arg1 (d : Dev nD) : atEnd m d (Proc.devRef .tc main_arg1) = m ((SparseCore.T d).loc main_arg1) := by
  refine (opsCols_ne _ (by decide)).trans ?_
  refine (Function.update_of_ne (show Proc.devRef .tc main_arg1 ≠ oRef by decide) _ _).trans ?_
  simp only [atCall, opsPad, StableHlo.TRef.binary, StableHlo.TRef.unary, StableHlo.TRef.toBuf, StableHlo.TRef.ofBuf, cast_eq]
  after_results <;> rfl

theorem atCall_table (d : Dev nD) :
    atCall m d tRef = pad S2500x128 ![0, 0] ![0, 126] ![0, 0] (m ((SparseCore.T d).loc main_arg1)) (sitofp .f32 (constantI S_ 32 0#32)) pads_S2500x2_S2500x128_000_01260 h_S_ := by
  simp only [atCall, opsPad, StableHlo.TRef.binary, StableHlo.TRef.unary, StableHlo.TRef.toBuf, StableHlo.TRef.ofBuf, cast_eq]
  after_results <;> rfl

theorem atEnd_result (d : Dev nD) : atEnd m d (Proc.devRef .tc main_v2) = Res m d := by
  refine (opsCols_result _).trans ?_
  rw [Function.update_self]
  unfold Out Res
  rw [show X₀ m d = _ from atCall_arg0 m d, show Tb₀ m d = _ from atCall_table m d]

/-- What the claims read of a final state. -/
def QC : PUnit × MemSt nD τ sig (Elt F) → Prop := fun r =>
  (∀ c : Dev nD, r.2.mem ((SparseCore.T c).loc main_v2) = Res m c ∧ r.2.mem ((SparseCore.T c).loc main_arg0) = m ((SparseCore.T c).loc main_arg0)
    ∧ r.2.mem ((SparseCore.T c).loc main_arg1) = m ((SparseCore.T c).loc main_arg1)) ∧ r.2.sem = fun _ => 0

/-- Every execution from indices in range ends with the result at `Res`, the arguments unchanged, every counter at zero. -/
theorem run_main [∀ e, Nonempty (Elt F e)] (hpre : IdxOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (X₀ m) (Tb₀ m)) (A := ∅) launchFacts v₀
    (fun q hq => match q with | 0 => nomatch hq)
    (fun q _ => match q with | 0 => tileObl (X₀ m) (Tb₀ m) launchFacts (fun d j => by
      show (show BitVec 32 from atCall m d iRef j).toNat < 2500
      rw [atCall_arg0]; exact hpre d j))
    (fun q _ => match q with | 0 => SparseCore.Cfg.VecSplit.of_plain (vecSplit (X₀ m) (Tb₀ m)))
    m ρ main (fun _ => iprop(emp)) (FIN m) (u₀ (F := F)) (sep_elim_left.trans (hu₀ (X₀ m) (Tb₀ m))) (hmain m ρ) (fq m) (hfin m) (QC m)
    (fun _ h hz => ⟨fun c => ⟨(h c (Proc.devRef .tc main_v2) (by decide)).trans (atEnd_result m c), (h c (Proc.devRef .tc main_arg0) (by decide)).trans (atEnd_arg0 m c), (h c (Proc.devRef .tc main_arg1) (by decide)).trans (atEnd_arg1 m c)⟩, hz⟩)

end Cert.Proof.GatherIdealSc

end
-- ==== Proof.Take.lean ====
/-
  The two ways of reading rows of the 2500-row table agree. The kernel looks rows up in the table padded to 128 columns and
  keeps the first two; the reference reads the table at the indices, an index below zero counted from the end and a row out
  of range filled with a constant. For indices in range both are `rows`.
-/
module

public import proofs.«01_k».proof.Proof.RowLookup
public import Idealize.ShloMosaic.Lib.Routing.Ops
public import Idealize.ShloMosaic.Lib.ReduceAll
public import Idealize.ShloMosaic.Lib.KernelVsHost

@[expose] public section

noncomputable section

namespace Cert.Proof

open Idealize.ShloMosaic

/-- Row `r` of the result is the row of the two-column table that the `r`-th index names. -/
def rows {α : Type} (x : (⟨1, ![4096]⟩ : Shape).Idx → BitVec 32) (t : (⟨2, ![2500, 2]⟩ : Shape).Idx → α) :
    (⟨2, ![4096, 2]⟩ : Shape).Idx → α :=
  fun j => t (ix2 (rowOfWord (x (ix1 (j 0)))) (j 1))

/-- The first two columns of the rows looked up in the table padded on the right are the rows of the table. -/
theorem slice_lookup_pad {α : Type} (x : (⟨1, ![4096]⟩ : Shape).Idx → BitVec 32) (t : (⟨2, ![2500, 2]⟩ : Shape).Idx → α)
    {u : Shape} (v : u.Idx → α) (hp : (⟨2, ![2500, 2]⟩ : Shape).Pads ![0, 0] ![0, 126] ![0, 0] ⟨2, ![2500, 128]⟩) (hu : 0 < u.numel)
    (hs : (⟨2, ![4096, 128]⟩ : Shape).Slices ![0, 0] ⟨2, ![4096, 2]⟩) :
    extractStridedSlice ⟨2, ![4096, 2]⟩ ![0, 0] (lookup x (pad ⟨2, ![2500, 128]⟩ ![0, 0] ![0, 126] ![0, 0] t v hp hu)) hs = rows x t := by
  funext j
  have hj : (j 1).val < 2 := (j 1).isLt
  refine (extractStridedSlice_apply ![0, 0] _ hs j (ix2 (j 0) (⟨(j 1).val, by omega⟩ : Fin 128)) (fun a => by
    match a with
    | ⟨0, _⟩ => exact (Nat.zero_add _).symm
    | ⟨1, _⟩ => exact (Nat.zero_add _).symm)).trans ?_
  unfold lookup rows
  exact pad_apply_of_inside _ _ _ t v hp hu _ (ix2 (rowOfWord (x (ix1 (j 0)))) (j 1)) (fun a => by
    match a with
    | ⟨0, _⟩ => simp
    | ⟨1, _⟩ => simp)

/-- A word between 0 and 2499, read as a signed number, is one below 2500, read as an unsigned one. -/
theorem toNat_lt_of_bits {v : BitVec 32} (e : IntOp.andi (IntOp.cmpi .sge v 0#32) (IntOp.cmpi .slt v 2500#32) = 1#1) : v.toNat < 2500 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A word below 2500 is not negative, read as a signed number. -/
theorem slt_zero_of_lt {v : BitVec 32} (h : v.toNat < 2500) : IntOp.cmpi .slt v 0#32 = 0#1 := by
  have e : BitVec.slt v 0#32 = false := by
    simp only [BitVec.slt_eq_decide, BitVec.toInt_eq_toNat_cond, BitVec.toNat_ofNat, Nat.reducePow, Nat.reduceMod, decide_eq_false_iff_not]
    omega
  simp only [IntOp.cmpi, e]
  decide

/-- A word below 2500 passes both bounds of the reference's check. -/
theorem bits_of_lt {v : BitVec 32} (h : v.toNat < 2500) : IntOp.andi (IntOp.cmpi .sge v 0#32) (IntOp.cmpi .sle v 2499#32) = 1#1 := by
  have e1 : BitVec.sle 0#32 v = true := by
    simp only [BitVec.sle_eq_decide, BitVec.toInt_eq_toNat_cond, BitVec.toNat_ofNat, Nat.reducePow, Nat.reduceMod, decide_eq_true_eq]
    omega
  have e2 : BitVec.sle v 2499#32 = true := by
    simp only [BitVec.sle_eq_decide, BitVec.toInt_eq_toNat_cond, BitVec.toNat_ofNat, Nat.reducePow, Nat.reduceMod, decide_eq_true_eq]
    omega
  simp only [IntOp.cmpi, e1, e2]
  decide

/-- The reference's row numbers: an index below zero is counted from the end. -/
abbrev wrapped (x : IVec ⟨1, ![4096]⟩ 32) (hb : (⟨0, ![]⟩ : Shape).BroadcastsInDim ⟨1, ![4096]⟩ (![] : Fin 0 → Fin 1)) : IVec ⟨1, ![4096]⟩ 32 :=
  select (cmpi .slt x (broadcastInDim ⟨1, ![4096]⟩ ![] hb (constantI ⟨0, ![]⟩ 32 0#32)))
    (addi x (broadcastInDim ⟨1, ![4096]⟩ ![] hb (constantI ⟨0, ![]⟩ 32 2500#32))) x

/-- For indices in range the reference's row numbers are the indices. -/
theorem wrapped_eq (x : IVec ⟨1, ![4096]⟩ 32) (hx : ∀ j, (x j).toNat < 2500) (hb) : wrapped x hb = x := by
  funext j
  show Scalar.select (IntOp.cmpi .slt (x j) 0#32) _ _ = x j
  rw [slt_zero_of_lt (hx j)]
  rfl

/-- For indices in range, the reference's read of the table — rows out of range filled — is `rows`. -/
theorem take_eq {α : Type} (x : IVec ⟨1, ![4096]⟩ 32) (hx : ∀ j, (x j).toNat < 2500) (t : (⟨2, ![2500, 2]⟩ : Shape).Idx → α)
    (fill : (⟨2, ![4096, 2]⟩ : Shape).Idx → α) (hb : (⟨0, ![]⟩ : Shape).BroadcastsInDim ⟨1, ![4096]⟩ (![] : Fin 0 → Fin 1))
    (h1 : (⟨1, ![4096]⟩ : Shape).BroadcastsInDim ⟨2, ![4096, 1]⟩ ![0]) (h2 : (⟨1, ![4096]⟩ : Shape).BroadcastsInDim ⟨2, ![4096, 2]⟩ ![0])
    (h3 : (⟨0, ![]⟩ : Shape).BroadcastsInDim ⟨2, ![4096, 1]⟩ (![] : Fin 0 → Fin 2)) (h4 : (⟨1, ![1]⟩ : Shape).BroadcastsInDim ⟨2, ![1, 1]⟩ ![1])
    (h5 : (⟨2, ![1, 1]⟩ : Shape).BroadcastsInDim ⟨2, ![4096, 1]⟩ ![0, 1]) (hr : (⟨2, ![4096, 1]⟩ : Shape).ReducesTo [1] ⟨1, ![4096]⟩)
    (hu : 0 < (⟨0, ![]⟩ : Shape).numel) (d : GatherDims ⟨2, ![2500, 2]⟩ ⟨2, ![4096, 1]⟩ ⟨2, ![4096, 2]⟩) (hoff : d.offsetDims = [1])
    (hcoll : d.collapsedSliceDims = [0]) (hob : d.operandBatchingDims = []) (hsim : d.startIndexMap = [0]) (hivd : d.indexVectorDim = 1) :
    select (broadcastInDim ⟨2, ![4096, 2]⟩ ![0] h2 (Host.reduce IntOp.andi
        (andi (cmpi .sge (broadcastInDim ⟨2, ![4096, 1]⟩ ![0] h1 (wrapped x hb)) (broadcastInDim ⟨2, ![4096, 1]⟩ ![] h3 (constantI ⟨0, ![]⟩ 32 0#32)))
          (cmpi .sle (broadcastInDim ⟨2, ![4096, 1]⟩ ![0] h1 (wrapped x hb))
            (broadcastInDim ⟨2, ![4096, 1]⟩ ![0, 1] h5 (broadcastInDim ⟨2, ![1, 1]⟩ ![1] h4 (constantI ⟨1, ![1]⟩ 32 2499#32)))))
        (constantI ⟨0, ![]⟩ 1 1#1) hr hu))
      (Host.gather d t (broadcastInDim ⟨2, ![4096, 1]⟩ ![0] h1 (wrapped x hb))) fill = rows x t := by
  rw [wrapped_eq x hx]
  funext j
  rw [ValueIdx.select_apply]
  have hm : broadcastInDim ⟨2, ![4096, 2]⟩ ![0] h2 (Host.reduce IntOp.andi
        (andi (cmpi .sge (broadcastInDim ⟨2, ![4096, 1]⟩ ![0] h1 x) (broadcastInDim ⟨2, ![4096, 1]⟩ ![] h3 (constantI ⟨0, ![]⟩ 32 0#32)))
          (cmpi .sle (broadcastInDim ⟨2, ![4096, 1]⟩ ![0] h1 x)
            (broadcastInDim ⟨2, ![4096, 1]⟩ ![0, 1] h5 (broadcastInDim ⟨2, ![1, 1]⟩ ![1] h4 (constantI ⟨1, ![1]⟩ 32 2499#32)))))
        (constantI ⟨0, ![]⟩ 1 1#1) hr hu) j = 1#1 :=
    Host.reduce_andi_one _ _ hr hu _ rfl (fun i => bits_of_lt (hx _))
  rw [hm, ValueIdx.select_one]
  obtain ⟨r, c, rfl⟩ : ∃ (r : Fin 4096) (c : Fin 2), j = ix2 r c := ⟨j 0, j 1, eq_ix2 j⟩
  refine Routing.gather_row d hoff hcoll hob hsim hivd t _ r c (rowOfWord (x (ix1 r))) ?_ (by norm_num)
  rw [rowOfWord_val (hx _)]
  refine (broadcastInDim_apply ![0] h1 x (ix2 r (0 : Fin 1)) (ix1 r) (fun a => ?_)).trans ?_
  · match a with
    | ⟨0, _⟩ => simp
  · exact BitVec.eq_of_toNat_eq (by rw [BitVec.toNat_ofNat]; exact (Nat.mod_eq_of_lt (x (ix1 r)).isLt).symm)

end Cert.Proof

end
-- ==== Proof.GatherClaims.lean ====
/-
  The claims about the SparseCore call with its host code: at machine floats and at extended reals, for indices in range,
  every execution finishes with nothing left over, and at extended reals the result is the reference's.
-/
module

public import proofs.«01_k».proof.Defs
public import proofs.«01_k».proof.Proof.GatherRun
public import proofs.«01_k».proof.Proof.GatherIdealRun
public import proofs.«01_k».proof.Proof.Take
public import proofs.«01_k».proof.Proof.Gen.Gather
public import proofs.«01_k».proof.Proof.Gen.GatherIdeal
public import proofs.«01_k».proof.Proof.Gen.GatherRefIdeal
public import proofs.«01_k».proof.Proof.Gen.GatherRefIdeal.Run
public import proofs.«01_k».proof.Proof.Gen.Pre_in_grid
public import Idealize.ShloMosaic.Lib.Quiescent

@[expose] public section

set_option maxRecDepth 16384

noncomputable section

namespace Cert.Proof.GatherClaims

open Idealize.ShloMosaic Idealize.SL.Sem

attribute [local instance] Cert.Gather.Gen.facts Cert.GatherIdeal.Gen.facts Cert.GatherRefIdeal.Gen.facts Cert.Pre_in_grid.Gen.facts

/-- The printed precondition, read: every index is below 2500. -/
theorem lt_of_pre {F : FTy → Type} [FloatOps F] (x : IVec Cert.Pre_in_grid.S4096 32) (t : FVec F Cert.Pre_in_grid.S2500x2 .f32)
    (h : Cert.Pre_in_grid.fn x t = fun _ => 1#1) (j : Cert.Pre_in_grid.S4096.Idx) : (x j).toNat < 2500 := by
  have e := congrFun h (fun a => a.elim0)
  unfold Cert.Pre_in_grid.fn at e
  haveI : Subsingleton Cert.Pre_in_grid.S_.Idx := ⟨fun a b => funext fun k => k.elim0⟩
  exact toNat_lt_of_bits (Host.reduce_andi_all _ _ _ _ _ e j)

/-- At machine floats: the call with its host code finishes, leaves its arguments and every counter as they were. -/
theorem frame : Cert.quiescent_Gather := fun m g hpre =>
  (θ_run Cert.Gather.defs _ _).mono (fun _ h => ⟨fun c => (h.1 c).2, h.2⟩)
    (GatherSc.run_main (F := Bits) m g fun d j => lt_of_pre _ _ (hpre d) j)

/-- The same at extended reals. -/
theorem frame_ideal : Cert.quiescent_GatherIdeal := fun m g hpre =>
  (θ_run Cert.GatherIdeal.defs _ _).mono (fun _ h => ⟨fun c => (h.1 c).2, h.2⟩)
    (GatherIdealSc.run_main (F := Ideal) m g fun d j => lt_of_pre _ _ (hpre d) j)

/-- The reference finishes and leaves its arguments as they were. -/
theorem frame_ref : Cert.quiescent_GatherRefIdeal := fun m g _ =>
  (θ_run Cert.GatherRefIdeal.defs _ _).mono (fun r h => ⟨fun c => (h c).2, sem_eq_zero_of_no_sems (by decide) r.2⟩)
    (Cert.GatherRefIdeal.Value.run (F := Ideal) m g)

/-- The same under the precondition. -/
theorem frame_ref_pre : Cert.quiescent_GatherRefIdeal_pre_in_grid := fun m g _ =>
  (θ_run Cert.GatherRefIdeal.defs _ _).mono (fun r h => ⟨fun c => (h c).2, sem_eq_zero_of_no_sems (by decide) r.2⟩)
    (Cert.GatherRefIdeal.Value.run (F := Ideal) m g)

/-- At extended reals the call with its host code and the reference end with equal results. -/
theorem algebraic : Cert.algebraic_GatherIdeal_GatherRefIdeal := by
  intro m g m' g' hpre hagree
  have hx : GatherIdealSc.IdxOK (F := Ideal) m := fun d j => lt_of_pre _ _ (hpre d) j
  refine ⟨fun c => GatherIdealSc.Res (F := Ideal) m c,
    (θ_run Cert.GatherIdeal.defs _ _).mono (fun _ h => h.1) (GatherIdealSc.run_main (F := Ideal) m g hx),
    (θ_run Cert.GatherRefIdeal.defs _ _).mono (fun r h c => ⟨(h c).1.trans ?_, (h c).2⟩) (Cert.GatherRefIdeal.Value.run (F := Ideal) m' g')⟩
  rw [(hagree c).1, (hagree c).2]
  refine (take_eq _ (hx c) _ _ _ _ _ _ _ _ _ _ _ rfl rfl rfl rfl rfl).trans ?_
  exact (slice_lookup_pad _ _ _ _ _ _).symm

end Cert.Proof.GatherClaims

end
-- ==== Proof.FirstMin.lean ====
/-
  The first place where a finite family of extended reals is smallest, and the two ways of finding it: the kernel's, the
  least of the positions that hold the minimum, and the reference's, a fold that keeps the smaller pair of a value and a
  position.
-/
module

public import Idealize.ShloMosaic.PureOps.Ideal
public import Idealize.ShloMosaic.PureOps.Ideal.Laws
public import Idealize.ShloMosaic.PureOps.Reduce
public import Idealize.ShloMosaic.Lib.SortNet.Extract
public import Idealize.ShloMosaic.Lib.Pointwise.Reduce
public import Mathlib.Data.Prod.Lex

@[expose] public section

noncomputable section

namespace Cert.Proof

open Idealize.ShloMosaic

/-- `i` is the first index at which `f` is smallest. -/
def IsFirstMin {n : ℕ} (f : Fin n → EReal) (i : Fin n) : Prop := ∀ j, f i < f j ∨ (f i = f j ∧ i ≤ j)

/-- The value at the first minimum is a lower bound. -/
theorem IsFirstMin.le {n : ℕ} {f : Fin n → EReal} {i : Fin n} (h : IsFirstMin f i) (j : Fin n) : f i ≤ f j :=
  (h j).elim le_of_lt fun e => e.1.le

/-- A nonempty family has a first minimum. -/
theorem exists_isFirstMin {n : ℕ} (hn : 0 < n) (f : Fin n → EReal) : ∃ i, IsFirstMin f i := by
  obtain ⟨i, -, hi⟩ := Finset.exists_min_image (Finset.univ : Finset (Fin n)) (fun i => toLex (f i, i)) ⟨⟨0, hn⟩, Finset.mem_univ _⟩
  exact ⟨i, fun j => (Prod.Lex.le_iff.1 (hi j (Finset.mem_univ _)))⟩

/-- The first minimum is unique. -/
theorem IsFirstMin.unique {n : ℕ} {f : Fin n → EReal} {i j : Fin n} (hi : IsFirstMin f i) (hj : IsFirstMin f j) : i = j := by
  rcases hi j with h | ⟨-, h⟩
  · exact absurd (hj.le i) (not_le.2 h)
  · rcases hj i with h' | ⟨-, h'⟩
    · exact absurd (hi.le j) (not_le.2 h')
    · exact le_antisymm h h'

/-- Entries appended on the right that are no smaller than some entry do not move the first minimum. -/
theorem IsFirstMin.extend {n m : ℕ} (hnm : n ≤ m) {f : Fin n → EReal} {g : Fin m → EReal} {i k : Fin n} (hi : IsFirstMin f i)
    (hin : ∀ j : Fin n, g (Fin.castLE hnm j) = f j) (hout : ∀ j : Fin m, n ≤ j.val → f k ≤ g j) :
    IsFirstMin g (Fin.castLE hnm i) := by
  intro j
  by_cases hj : j.val < n
  · have e : j = Fin.castLE hnm ⟨j.val, hj⟩ := rfl
    rw [e, hin, hin]
    exact (hi ⟨j.val, hj⟩).imp_right fun h => ⟨h.1, h.2⟩
  · have hle : n ≤ j.val := not_lt.1 hj
    rw [hin]
    rcases lt_or_eq_of_le ((hi.le k).trans (hout j hle)) with h | h
    · exact Or.inl h
    · exact Or.inr ⟨h, Fin.le_def.2 (le_trans (le_of_lt i.isLt) hle)⟩

/-- A strictly increasing function of the entries does not move the first minimum. -/
theorem IsFirstMin.of_strictMono {n : ℕ} {f g : Fin n → EReal} (h : ∀ i j, f i < f j → g i < g j) (he : ∀ i j, f i = f j → g i = g j)
    {i : Fin n} (hi : IsFirstMin f i) : IsFirstMin g i :=
  fun j => (hi j).imp (h i j) fun e => ⟨he i j e.1, e.2⟩

/-- The fold of the minimum from the top element is the value at the first minimum. -/
theorem IsFirstMin.fold_min {n : ℕ} {f : Fin n → EReal} {i : Fin n} (h : IsFirstMin f i) :
    (Finset.univ : Finset (Fin n)).fold min (⊤ : EReal) f = f i :=
  le_antisymm (Finset.fold_min_le _ |>.2 (Or.inr ⟨i, Finset.mem_univ _, le_refl _⟩))
    ((Finset.le_fold_min _).2 ⟨le_top, fun j _ => h.le j⟩)

/-- The fold of the signed minimum of words, as integers. -/
theorem toInt_fold_minsi {n : ℕ} (b : BitVec 32) (f : Fin n → BitVec 32) (s : Finset (Fin n)) :
    (s.fold IntOp.minsi b f).toInt = s.fold min b.toInt fun j => (f j).toInt := by
  induction s using Finset.cons_induction with
  | empty => simp
  | cons a s ha ih => rw [Finset.fold_cons, Finset.fold_cons, SortNet.toInt_minsi, ih]

/-- A small natural number's word is that integer. -/
theorem toInt_ofNat_small {k : ℕ} (hk : k < 2147483648) : (BitVec.ofNat 32 k).toInt = k := by
  rw [BitVec.toInt_eq_toNat_of_lt (by rw [BitVec.toNat_ofNat]; omega), BitVec.toNat_ofNat]
  rw [Nat.mod_eq_of_lt (by omega)]

/-- The least position, as a word, among those that hold the minimum (the others count as the number of positions) is the
    first minimum. -/
theorem IsFirstMin.fold_minsi {n : ℕ} (hn : n < 2147483647) {f : Fin n → EReal} {i : Fin n} (h : IsFirstMin f i) (g : Fin n → BitVec 32)
    (hg : ∀ j, g j = if f j = f i then BitVec.ofNat 32 j.val else BitVec.ofNat 32 n) :
    (Finset.univ : Finset (Fin n)).fold IntOp.minsi 2147483647#32 g = BitVec.ofNat 32 i.val := by
  apply BitVec.eq_of_toInt_eq
  rw [toInt_fold_minsi, toInt_ofNat_small (lt_trans i.isLt (by omega))]
  have hi := i.isLt
  refine le_antisymm (Finset.fold_min_le _ |>.2 (Or.inr ⟨i, Finset.mem_univ _, ?_⟩)) ((Finset.le_fold_min _).2 ⟨?_, fun j _ => ?_⟩)
  · rw [hg, if_pos rfl, toInt_ofNat_small (by omega)]
  · rw [show (2147483647#32 : BitVec 32).toInt = 2147483647 from rfl]; omega
  · have hj := j.isLt
    rw [hg]
    split
    · next e =>
      rw [toInt_ofNat_small (by omega)]
      rcases h j with h' | ⟨-, h'⟩
      · exact absurd e (ne_of_gt h')
      · exact_mod_cast h'
    · rw [toInt_ofNat_small (by omega)]; omega

/-! ## The reference's fold -/

/-- One step of the reference's search: the smaller value, and of two equal ones the smaller position. -/
def argminStep (a b : EReal × BitVec 32) : EReal × BitVec 32 :=
  (if a.1 < b.1 then a.1 else b.1, if a.1 < b.1 ∨ (a.1 = b.1 ∧ a.2.toInt < b.2.toInt) then a.2 else b.2)

/-- The order the step takes the minimum in: by value, then by position. -/
def argminKey (p : EReal × BitVec 32) : Lex (EReal × ℤ) := toLex (p.1, p.2.toInt)

/-- That order, spelt out. -/
theorem argminKey_le {a b : EReal × BitVec 32} :
    argminKey a ≤ argminKey b ↔ a.1 < b.1 ∨ (a.1 = b.1 ∧ a.2.toInt ≤ b.2.toInt) := Prod.Lex.toLex_le_toLex

/-- The step takes the minimum. -/
theorem argminKey_step (a b : EReal × BitVec 32) : argminKey (argminStep a b) = min (argminKey a) (argminKey b) := by
  unfold argminStep
  rcases lt_trichotomy a.1 b.1 with h | h | h
  · rw [min_eq_left (argminKey_le.2 (Or.inl h)), if_pos h, if_pos (Or.inl h)]
  · by_cases h2 : a.2.toInt < b.2.toInt
    · rw [min_eq_left (argminKey_le.2 (Or.inr ⟨h, h2.le⟩)), if_pos (Or.inr ⟨h, h2⟩), if_neg (by rw [h]; exact lt_irrefl _), ← h]
    · rw [min_eq_right (argminKey_le.2 (Or.inr ⟨h.symm, not_lt.1 h2⟩)), if_neg (by rw [h]; exact lt_irrefl _),
        if_neg (by rintro (e | e); exacts [absurd e (by rw [h]; exact lt_irrefl _), h2 e.2])]
  · rw [min_eq_right (argminKey_le.2 (Or.inl h)), if_neg (not_lt.2 h.le),
      if_neg (by rintro (e | e); exacts [not_lt.2 h.le e, ne_of_gt h e.1])]

/-- Folding the step over a list ends at the least pair met. -/
theorem argminKey_foldl (p : EReal × BitVec 32) : ∀ (l : List (EReal × BitVec 32)) (a : EReal × BitVec 32),
    (argminKey p ≤ argminKey a) → (∀ q ∈ l, argminKey p ≤ argminKey q) → (argminKey p = argminKey a ∨ p ∈ l) →
    argminKey (l.foldl argminStep a) = argminKey p
  | [], a, _, _, h => (h.resolve_right List.not_mem_nil).symm
  | b :: l, a, h1, h2, h3 => by
    refine argminKey_foldl p l (argminStep a b) ?_ (fun q hq => h2 q (List.mem_cons_of_mem _ hq)) ?_
    · rw [argminKey_step]; exact le_min h1 (h2 b List.mem_cons_self)
    · rw [argminKey_step]
      rcases h3 with h | h
      · exact Or.inl (by rw [min_eq_left (h ▸ h2 b List.mem_cons_self), h])
      · rcases List.mem_cons.1 h with h | h
        · exact Or.inl (by rw [← h, min_eq_right h1])
        · exact Or.inr h

/-- Folding the step over a family's values with their positions, from the top element at position zero, ends at the first
    minimum's position. -/
theorem IsFirstMin.foldl_argmin {n : ℕ} (hn : n < 2147483647) {f : Fin n → EReal} {i : Fin n} (h : IsFirstMin f i)
    (l : List (EReal × BitVec 32)) (hl : ∀ q, q ∈ l ↔ ∃ j, q = (f j, BitVec.ofNat 32 j.val)) :
    (l.foldl argminStep (⊤, 0#32)).2 = BitVec.ofNat 32 i.val := by
  have hi := i.isLt
  have key : argminKey (l.foldl argminStep (⊤, 0#32)) = argminKey (f i, BitVec.ofNat 32 i.val) := by
    refine argminKey_foldl _ l _ (argminKey_le.2 ?_) (fun q hq => ?_) (Or.inr ((hl _).2 ⟨i, rfl⟩))
    · rcases lt_or_eq_of_le (le_top : f i ≤ ⊤) with h' | h'
      · exact Or.inl h'
      · refine Or.inr ⟨h', ?_⟩
        have h0 : i.val ≤ 0 := by
          rcases h ⟨0, by omega⟩ with e | ⟨-, e⟩
          · exact absurd e (by rw [h']; exact not_top_lt)
          · exact Fin.le_def.1 e
        show (BitVec.ofNat 32 i.val).toInt ≤ _
        rw [toInt_ofNat_small (by omega)]
        show (i.val : ℤ) ≤ 0
        omega
    · obtain ⟨j, rfl⟩ := (hl q).1 hq
      have hj := j.isLt
      refine argminKey_le.2 ((h j).imp_right fun e => ⟨e.1, ?_⟩)
      show (BitVec.ofNat 32 i.val).toInt ≤ (BitVec.ofNat 32 j.val).toInt
      rw [toInt_ofNat_small (by omega), toInt_ofNat_small (by omega)]
      exact_mod_cast e.2
  exact BitVec.eq_of_toInt_eq (congrArg Prod.snd (toLex.injective key))

end Cert.Proof

end
-- ==== Proof.Search.lean ====
/-
  One block of the kernel's search: the word it stores for a row is the first column at which the row's squared distance is
  smallest.
-/
module

public import proofs.«01_k».proof.Proof.FirstMin
public import Idealize.ShloMosaic.Lib.Pointwise
public import Idealize.ShloMosaic.Lib.Pipeline.Value

@[expose] public section

set_option maxRecDepth 16384

noncomputable section

namespace Cert.Proof

open Idealize.ShloMosaic

/-- The shape written `S256x2560` in the programs. -/
abbrev Sq : Shape := ⟨2, ![256, 2560]⟩

/-- A projected coordinate: the row of `x` times column `k` of `w`, plus the offset. -/
def proj (x : (⟨2, ![256, 128]⟩ : Shape).Idx → EReal) (w : (⟨2, ![128, 5120]⟩ : Shape).Idx → EReal)
    (a : (⟨2, ![1, 5120]⟩ : Shape).Idx → EReal) (r : Fin 256) (k : Fin 5120) : EReal :=
  (∑ q : Fin 128, x (ix2 r q) * w (ix2 q k)) + a (ix2 0 k)

/-- The squared distance from row `r`'s point to candidate `k`: the two coordinates of the candidate lie 2560 columns apart. -/
def colSq (x : (⟨2, ![256, 128]⟩ : Shape).Idx → EReal) (w : (⟨2, ![128, 5120]⟩ : Shape).Idx → EReal)
    (a : (⟨2, ![1, 5120]⟩ : Shape).Idx → EReal) (y0 y1 : (⟨2, ![256, 1]⟩ : Shape).Idx → EReal) (r : Fin 256) (k : Fin 2560) : EReal :=
  (proj x w a r ⟨k.val, by have := k.isLt; omega⟩ - y0 (ix2 r 0)) * (proj x w a r ⟨k.val, by have := k.isLt; omega⟩ - y0 (ix2 r 0))
    + (proj x w a r ⟨2560 + k.val, by have := k.isLt; omega⟩ - y1 (ix2 r 0))
      * (proj x w a r ⟨2560 + k.val, by have := k.isLt; omega⟩ - y1 (ix2 r 0))

/-- The matrix of squared distances as the kernel computes it. -/
def sqMat (d : DotDims ⟨2, ![256, 128]⟩ ⟨2, ![128, 5120]⟩ ⟨2, ![256, 5120]⟩)
    (c1 : (⟨2, ![128, 5120]⟩ : Shape).ShapeCasts ⟨2, ![128, 5120]⟩) (c2 : (⟨2, ![1, 5120]⟩ : Shape).ShapeCasts ⟨2, ![1, 5120]⟩)
    (b1 : (⟨2, ![1, 5120]⟩ : Shape).Broadcasts ⟨2, ![256, 5120]⟩) (b2 : (⟨2, ![256, 1]⟩ : Shape).Broadcasts Sq)
    (s1 : (⟨2, ![256, 5120]⟩ : Shape).Slices ![0, 0] Sq) (s2 : (⟨2, ![256, 5120]⟩ : Shape).Slices ![0, 2560] Sq)
    (x : FVec Ideal ⟨2, ![256, 128]⟩ .f32) (w : FVec Ideal ⟨2, ![128, 5120]⟩ .f32) (a : FVec Ideal ⟨2, ![1, 5120]⟩ .f32)
    (y0 y1 : FVec Ideal ⟨2, ![256, 1]⟩ .f32) : FVec Ideal Sq .f32 :=
  let p : FVec Ideal ⟨2, ![256, 5120]⟩ .f32 :=
    addf (matmul d none x (shapeCast _ w c1) (constant ⟨2, ![256, 5120]⟩ .f32 0x00000000#32)) (broadcastTo _ (shapeCast _ a c2) b1)
  let u := subf (extractStridedSlice Sq ![0, 0] p s1) (broadcastTo Sq y0 b2)
  let v := subf (extractStridedSlice Sq ![0, 2560] p s2) (broadcastTo Sq y1 b2)
  addf (mulf u u) (mulf v v)

/-- An entry of that matrix is the squared distance. -/
theorem sqMat_apply (hwf) (c1 c2 b1 b2 s1 s2) (x : FVec Ideal ⟨2, ![256, 128]⟩ .f32) (w : FVec Ideal ⟨2, ![128, 5120]⟩ .f32)
    (a : FVec Ideal ⟨2, ![1, 5120]⟩ .f32) (y0 y1 : FVec Ideal ⟨2, ![256, 1]⟩ .f32) (r : Fin 256) (k : Fin 2560) :
    sqMat ⟨[1], [0], [0], [1], [], [], hwf⟩ c1 c2 b1 b2 s1 s2 x w a y0 y1 (ix2 r k) = colSq x w a y0 y1 r k := by
  unfold sqMat colSq proj
  simp only [pointwise]
  simp

/-- A block of the kernel's search: per row the least column among those whose squared distance is the row's minimum, a column
    that does not attain it counting as 2560. -/
def search (M : FVec Ideal Sq .f32) (h1 : Sq.Reduces [1] ⟨1, ![256]⟩) (h2 : (⟨1, ![256]⟩ : Shape).ShapeCasts ⟨2, ![256, 1]⟩)
    (h3 : Sq.Iotas .tc 32 [1]) (h4 : (⟨2, ![256, 1]⟩ : Shape).Broadcasts Sq)
    (h5 : (⟨1, ![256]⟩ : Shape).ShapeCasts ⟨3, ![1, 1, 256]⟩) : IVec ⟨3, ![1, 1, 256]⟩ 32 :=
  shapeCast ⟨3, ![1, 1, 256]⟩ (multiReductionI .minsi [1] ⟨1, ![256]⟩
    (select (cmpf .oeq M (broadcastTo Sq (shapeCast ⟨2, ![256, 1]⟩
        (multiReduction .minimumf [1] ⟨1, ![256]⟩ M 0x7F800000#32 h1 (.inl rfl) rfl) h2) h4))
      (iota .tc Sq 32 [1] h3) (broadcast Sq 2560#32)) 2147483647#32 h1 rfl) h5

/-- The word stored for row `r` is the first column at which the row is smallest. -/
theorem search_apply (M : FVec Ideal Sq .f32) (h1 h2 h3 h4 h5) (r : Fin 256) (i : Fin 2560)
    (hi : IsFirstMin (fun k => M (ix2 r k)) i) :
    search M h1 h2 h3 h4 h5 (ix3 0 0 r) = BitVec.ofNat 32 i.val := by
  have htop : Ideal.ofBits FTy.f32 0x7F800000#32 = ⊤ := by simp [Ideal.ofBits, Ideal.ieee]
  unfold search
  simp only [pointwise]
  refine hi.fold_minsi (by omega) _ fun k => ?_
  simp only [reduceDIte, Nat.reduceEqDiff, htop, hi.fold_min]
  have e : List.foldl (fun n (a : Fin 2) => n * ![256, 2560] a + ((ix2 r k : Sq.Idx) a).val) 0 [1] = k.val := by
    simp [ix2]
  rw [e]

end Cert.Proof

end
-- ==== Proof.RefSearch.lean ====
/-
  The reference's search: the distances as its text computes them, and the first minimum of a row of them.
-/
module

public import proofs.«01_k».proof.Proof.FirstMin
public import Idealize.ShloMosaic.Lib.Pointwise
public import Idealize.ShloMosaic.Lib.Pipeline.Value

@[expose] public section

set_option maxRecDepth 16384

noncomputable section

namespace Cert.Proof

open Idealize.ShloMosaic

/-- Coordinate `c` of candidate `k` for row `r`: the row's features times the candidate's weights, plus its offset. -/
def surf (x : (⟨2, ![4096, 128]⟩ : Shape).Idx → EReal) (B : (⟨3, ![2500, 2, 128]⟩ : Shape).Idx → EReal)
    (A : (⟨2, ![2500, 2]⟩ : Shape).Idx → EReal) (r : Fin 4096) (k : Fin 2500) (c : Fin 2) : EReal :=
  (∑ q : Fin 128, x (ix2 r q) * B (ix3 k c q)) + A (ix2 k c)

/-- The squared distance from row `r`'s point to candidate `k`. -/
def sqDist (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) (r : Fin 4096) (k : Fin 2500) : EReal :=
  (surf x B A r k 0 - y (ix2 r 0)) * (surf x B A r k 0 - y (ix2 r 0)) + (surf x B A r k 1 - y (ix2 r 1)) * (surf x B A r k 1 - y (ix2 r 1))

/-- The number, as a word, of the candidate nearest to row `r`'s point (the first of several). -/
def nearest (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) (r : Fin 4096) : Fin 2500 :=
  (exists_isFirstMin (by omega) (sqDist y x B A r)).choose

/-- It is the first minimum of the squared distances. -/
theorem nearest_spec (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) (r : Fin 4096) :
    IsFirstMin (sqDist y x B A r) (nearest y x B A r) :=
  (exists_isFirstMin (by omega) (sqDist y x B A r)).choose_spec

/-- A square is not negative. -/
theorem sq_nonneg' (a : EReal) : 0 ≤ a * a := by
  induction a using EReal.rec with
  | bot => simp
  | top => simp
  | coe r => rw [← EReal.coe_mul]; exact_mod_cast mul_self_nonneg r

/-- The square root is strictly increasing on what is not negative. -/
theorem sqrt_lt_sqrt' {a b : EReal} (ha : 0 ≤ a) (h : a < b) : Ideal.sqrt a < Ideal.sqrt b := by
  induction a using EReal.rec with
  | bot => exact absurd ha (by simp)
  | top => exact absurd h not_top_lt
  | coe r =>
    have hr : 0 ≤ r := by exact_mod_cast ha
    have e : Ideal.sqrt (r : EReal) = (Real.sqrt r : EReal) := if_neg (not_lt.2 hr)
    rw [e]
    induction b using EReal.rec with
    | bot => exact absurd h not_lt_bot
    | top => exact EReal.coe_lt_top _
    | coe s =>
      have hs : r < s := by exact_mod_cast h
      have e' : Ideal.sqrt (s : EReal) = (Real.sqrt s : EReal) := if_neg (not_lt.2 (hr.trans hs.le))
      rw [e']
      exact_mod_cast Real.sqrt_lt_sqrt hr hs

/-- The matrix of distances as the reference computes it. -/
def refDist (d : DotDims ⟨2, ![4096, 128]⟩ ⟨3, ![2500, 2, 128]⟩ ⟨3, ![4096, 2500, 2]⟩)
    (h1 : (⟨2, ![2500, 2]⟩ : Shape).BroadcastsInDim ⟨3, ![1, 2500, 2]⟩ ![1, 2])
    (h2 : (⟨3, ![1, 2500, 2]⟩ : Shape).BroadcastsInDim ⟨3, ![4096, 2500, 2]⟩ ![0, 1, 2])
    (h3 : (⟨2, ![4096, 2]⟩ : Shape).BroadcastsInDim ⟨3, ![4096, 1, 2]⟩ ![0, 2])
    (h4 : (⟨3, ![4096, 1, 2]⟩ : Shape).BroadcastsInDim ⟨3, ![4096, 2500, 2]⟩ ![0, 1, 2])
    (h5 : (⟨3, ![4096, 2500, 2]⟩ : Shape).ReducesTo [2] ⟨2, ![4096, 2500]⟩) (hu : 0 < (⟨0, ![]⟩ : Shape).numel)
    (y : FVec Ideal ⟨2, ![4096, 2]⟩ .f32) (x : FVec Ideal ⟨2, ![4096, 128]⟩ .f32) (B : FVec Ideal ⟨3, ![2500, 2, 128]⟩ .f32)
    (A : FVec Ideal ⟨2, ![2500, 2]⟩ .f32) : FVec Ideal ⟨2, ![4096, 2500]⟩ .f32 :=
  let v : FVec Ideal ⟨3, ![4096, 2500, 2]⟩ .f32 :=
    subf (addf (Host.dotGeneral d none x B) (broadcastInDim ⟨3, ![4096, 2500, 2]⟩ ![0, 1, 2] h2 (broadcastInDim ⟨3, ![1, 2500, 2]⟩ ![1, 2] h1 A)))
      (broadcastInDim ⟨3, ![4096, 2500, 2]⟩ ![0, 1, 2] h4 (broadcastInDim ⟨3, ![4096, 1, 2]⟩ ![0, 2] h3 y))
  Host.sqrt (Host.reduceAdd (mulf v v) (constant ⟨0, ![]⟩ .f32 0x00000000#32) h5 hu)

/-- An entry of that matrix is the square root of the squared distance. -/
theorem refDist_apply (hwf) (h1 h2 h3 h4 h5 hu) (y : FVec Ideal ⟨2, ![4096, 2]⟩ .f32) (x : FVec Ideal ⟨2, ![4096, 128]⟩ .f32)
    (B : FVec Ideal ⟨3, ![2500, 2, 128]⟩ .f32) (A : FVec Ideal ⟨2, ![2500, 2]⟩ .f32) (r : Fin 4096) (k : Fin 2500) :
    refDist ⟨[1], [2], [0], [0, 1], [], [], hwf⟩ h1 h2 h3 h4 h5 hu y x B A (ix2 r k) = Ideal.sqrt (sqDist y x B A r k) := by
  unfold refDist sqDist surf
  simp only [pointwise, Host.dotGeneral]
  simp [Fin.sum_univ_two]

/-- The reference's search of a row ends at the row's first minimum. -/
theorem argmin_apply (D : FVec Ideal ⟨2, ![4096, 2500]⟩ .f32) (h : (⟨2, ![4096, 2500]⟩ : Shape).ReducesTo [1] ⟨1, ![4096]⟩)
    (hu : 0 < (⟨0, ![]⟩ : Shape).numel) (r : Fin 4096) (i : Fin 2500) (hi : IsFirstMin (fun k => D (ix2 r k)) i) :
    (Host.argReduce argminStep D (iotaInDim ⟨2, ![4096, 2500]⟩ 32 1) (constant (F := Ideal) ⟨0, ![]⟩ .f32 0x7F800000#32)
      (constantI ⟨0, ![]⟩ 32 0#32) h hu (ix1 r)).2 = BitVec.ofNat 32 i.val := by
  have htop : Ideal.ofBits FTy.f32 0x7F800000#32 = ⊤ := by simp [Ideal.ofBits, Ideal.ieee]
  rw [Ideal.argReduce_eq_reduce2, Host.reduce2_eq_foldl_fiber]
  show (List.foldl argminStep (Ideal.ofBits FTy.f32 0x7F800000#32, 0#32) _).2 = _
  rw [htop]
  refine hi.foldl_argmin (by omega) _ fun q => ?_
  unfold Host.argReduceFiber
  simp only [List.mem_map, List.mem_filter, List.mem_finRange, true_and, decide_eq_true_eq]
  constructor
  · rintro ⟨n, hn, rfl⟩
    obtain ⟨k, hk⟩ := (h.fiber_r2_a1 (ix1 r) _).1 hn
    exact ⟨k, by rw [← hk]; rfl⟩
  · rintro ⟨k, rfl⟩
    refine ⟨(⟨2, ![4096, 2500]⟩ : Shape).rowMajor (ix2 r k), ?_, ?_⟩
    · rw [Equiv.symm_apply_apply]
      exact (h.fiber_r2_a1 (ix1 r) _).2 ⟨k, rfl⟩
    · rw [Equiv.symm_apply_apply]
      rfl

/-- The words of the nearest candidates, row by row. -/
def nearestWords (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) :
    (⟨1, ![4096]⟩ : Shape).Idx → BitVec 32 :=
  fun j => BitVec.ofNat 32 (nearest y x B A (j 0)).val

/-- The reference's search, run on its distances, gives the words of the nearest candidates. -/
theorem refSearch_eq (red : Ideal .f32 × BitVec 32 → Ideal .f32 × BitVec 32 → Ideal .f32 × BitVec 32) (hred : red = argminStep)
    (hwf) (h1 h2 h3 h4 h5 hu) (h : (⟨2, ![4096, 2500]⟩ : Shape).ReducesTo [1] ⟨1, ![4096]⟩)
    (y : FVec Ideal ⟨2, ![4096, 2]⟩ .f32) (x : FVec Ideal ⟨2, ![4096, 128]⟩ .f32) (B : FVec Ideal ⟨3, ![2500, 2, 128]⟩ .f32)
    (A : FVec Ideal ⟨2, ![2500, 2]⟩ .f32) :
    (fun j => (Host.argReduce red (refDist ⟨[1], [2], [0], [0, 1], [], [], hwf⟩ h1 h2 h3 h4 h5 hu y x B A)
      (iotaInDim ⟨2, ![4096, 2500]⟩ 32 1) (constant (F := Ideal) ⟨0, ![]⟩ .f32 0x7F800000#32) (constantI ⟨0, ![]⟩ 32 0#32) h hu j).2)
      = nearestWords y x B A := by
  subst hred
  funext j
  obtain ⟨r, rfl⟩ : ∃ r : Fin 4096, j = ix1 r := ⟨j 0, funext fun a => by rw [Fin.fin_one_eq_zero a]; rfl⟩
  refine argmin_apply _ h hu r (nearest y x B A r) ?_
  refine (nearest_spec y x B A r).of_strictMono (fun a b hab => ?_) (fun a b hab => ?_)
  · rw [refDist_apply, refDist_apply]
    exact sqrt_lt_sqrt' (add_nonneg (sq_nonneg' _) (sq_nonneg' _)) hab
  · rw [refDist_apply, refDist_apply, hab]

/-- A step that selects by the printed comparisons is the step of the search. -/
theorem step_eq : (fun a b : Ideal .f32 × BitVec 32 =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)) = argminStep := by
  funext a b
  have h3 : FloatOps.cmpf (F := Ideal) .une a.1 a.1 = 0#1 := by simp [Ideal.cmpf_def, Ideal.cmp]
  have h6 : IntOp.cmpi .slt a.2 b.2 = BitVec.ofBool (decide (a.2.toInt < b.2.toInt)) := rfl
  simp only [h3, h6, Ideal.cmpf_def, Ideal.cmp]
  unfold argminStep
  by_cases h : a.1 < b.1 <;> by_cases h' : a.1 = b.1 <;> by_cases h'' : a.2.toInt < b.2.toInt <;>
    simp [h, h', h'', IntOp.ori, IntOp.andi, Scalar.select]

end Cert.Proof

end
-- ==== Proof.Prep.lean ====
/-
  The host's preparation of the search: the weights and the offsets are transposed, padded to 2560 candidates and laid out with
  the second coordinate's columns after the first's. Entry by entry they are the arguments', and the padding behind them.
-/
module

public import proofs.«01_k».proof.Proof.Search
public import proofs.«01_k».proof.Proof.RefSearch
public import Idealize.ShloMosaic.Lib.KernelVsHost

@[expose] public section

set_option maxRecDepth 16384

noncomputable section

namespace Cert.Proof

open Idealize.ShloMosaic

/-- Column `2560 c + k` of the prepared arrays. -/
def colOf (c : Fin 2) (k : Fin 2560) : Fin 5120 := ⟨2560 * c.val + k.val, by have := c.isLt; have := k.isLt; omega⟩

/-- The prepared weights. -/
def prepW {α : Type} (h1 : (⟨3, ![2500, 2, 128]⟩ : Shape).Transposes [2, 1, 0] ⟨3, ![128, 2, 2500]⟩)
    (h2 : (⟨3, ![128, 2, 2500]⟩ : Shape).Pads ![0, 0, 0] ![0, 0, 60] ![0, 0, 0] ⟨3, ![128, 2, 2560]⟩) (hu : 0 < (⟨0, ![]⟩ : Shape).numel)
    (h3 : (⟨3, ![128, 2, 2560]⟩ : Shape).ShapeCasts ⟨2, ![128, 5120]⟩) (B : (⟨3, ![2500, 2, 128]⟩ : Shape).Idx → α)
    (v : (⟨0, ![]⟩ : Shape).Idx → α) : (⟨2, ![128, 5120]⟩ : Shape).Idx → α :=
  shapeCast ⟨2, ![128, 5120]⟩ (pad ⟨3, ![128, 2, 2560]⟩ ![0, 0, 0] ![0, 0, 60] ![0, 0, 0]
    (transpose ⟨3, ![128, 2, 2500]⟩ [2, 1, 0] B h1) v h2 hu) h3

/-- The prepared offsets. -/
def prepA {α : Type} (h1 : (⟨2, ![2500, 2]⟩ : Shape).Transposes [1, 0] ⟨2, ![2, 2500]⟩)
    (h2 : (⟨2, ![2, 2500]⟩ : Shape).Pads ![0, 0] ![0, 60] ![0, 0] ⟨2, ![2, 2560]⟩) (hu : 0 < (⟨0, ![]⟩ : Shape).numel)
    (h3 : (⟨2, ![2, 2560]⟩ : Shape).ShapeCasts ⟨2, ![1, 5120]⟩) (A : (⟨2, ![2500, 2]⟩ : Shape).Idx → α)
    (v : (⟨0, ![]⟩ : Shape).Idx → α) : (⟨2, ![1, 5120]⟩ : Shape).Idx → α :=
  shapeCast ⟨2, ![1, 5120]⟩ (pad ⟨2, ![2, 2560]⟩ ![0, 0] ![0, 60] ![0, 0]
    (transpose ⟨2, ![2, 2500]⟩ [1, 0] A h1) v h2 hu) h3

section
variable {α : Type} (B : (⟨3, ![2500, 2, 128]⟩ : Shape).Idx → α) (A : (⟨2, ![2500, 2]⟩ : Shape).Idx → α) (v : (⟨0, ![]⟩ : Shape).Idx → α)

/-- A prepared weight, before the reshape. -/
theorem prepW_cast (h1 h2 hu h3) (q : Fin 128) (c : Fin 2) (k : Fin 2560) :
    prepW h1 h2 hu h3 B v (ix2 q (colOf c k)) = pad ⟨3, ![128, 2, 2560]⟩ ![0, 0, 0] ![0, 0, 60] ![0, 0, 0]
      (transpose ⟨3, ![128, 2, 2500]⟩ [2, 1, 0] B h1) v h2 hu (ix3 q c k) := by
  refine shapeCast_apply _ h3 _ (ix3 q c k) ?_
  rw [Shape.rowMajor_val_three, Shape.rowMajor_val_two]
  simp [ix2, ix3, colOf]
  omega

/-- A prepared weight of a candidate is the argument's. -/
theorem prepW_in (h1 h2 hu h3) (q : Fin 128) (c : Fin 2) (k : Fin 2560) (k' : Fin 2500) (hk : k.val = k'.val) :
    prepW h1 h2 hu h3 B v (ix2 q (colOf c k)) = B (ix3 k' c q) := by
  rw [prepW_cast]
  refine (pad_apply_of_inside _ _ _ _ v h2 hu _ (ix3 q c k') (fun a => ?_)).trans ?_
  · match a with
    | ⟨0, _⟩ => simp [ix3]
    | ⟨1, _⟩ => simp [ix3]
    | ⟨2, _⟩ => simp [ix3, hk]
  · exact transpose_apply _ B h1 _ (ix3 k' c q) (fun b => by
      match b with
      | ⟨0, _⟩ => rfl
      | ⟨1, _⟩ => rfl
      | ⟨2, _⟩ => rfl)

/-- A prepared weight behind the candidates is the padding. -/
theorem prepW_out (h1 h2 hu h3) (q : Fin 128) (c : Fin 2) (k : Fin 2560) (hk : 2500 ≤ k.val) :
    prepW h1 h2 hu h3 B v (ix2 q (colOf c k)) = v (Shape.Idx.first hu) := by
  rw [prepW_cast]
  exact pad_apply_of_not_inside _ _ _ _ v h2 hu _ 2 (by
    rintro ⟨-, -, h⟩
    have h' : (k.val - 0) / (0 + 1) < 2500 := h
    omega)

/-- A prepared offset, before the reshape. -/
theorem prepA_cast (h1 h2 hu h3) (c : Fin 2) (k : Fin 2560) :
    prepA h1 h2 hu h3 A v (ix2 0 (colOf c k)) = pad ⟨2, ![2, 2560]⟩ ![0, 0] ![0, 60] ![0, 0]
      (transpose ⟨2, ![2, 2500]⟩ [1, 0] A h1) v h2 hu (ix2 c k) := by
  refine shapeCast_apply _ h3 _ (ix2 c k) ?_
  rw [Shape.rowMajor_val_two, Shape.rowMajor_val_two]
  simp [ix2, colOf]
  omega

/-- A prepared offset of a candidate is the argument's. -/
theorem prepA_in (h1 h2 hu h3) (c : Fin 2) (k : Fin 2560) (k' : Fin 2500) (hk : k.val = k'.val) :
    prepA h1 h2 hu h3 A v (ix2 0 (colOf c k)) = A (ix2 k' c) := by
  rw [prepA_cast]
  refine (pad_apply_of_inside _ _ _ _ v h2 hu _ (ix2 c k') (fun a => ?_)).trans ?_
  · match a with
    | ⟨0, _⟩ => simp [ix2]
    | ⟨1, _⟩ => simp [ix2, hk]
  · exact transpose_apply _ A h1 _ (ix2 k' c) (fun b => by
      match b with
      | ⟨0, _⟩ => rfl
      | ⟨1, _⟩ => rfl)

/-- A prepared offset behind the candidates is the padding. -/
theorem prepA_out (h1 h2 hu h3) (c : Fin 2) (k : Fin 2560) (hk : 2500 ≤ k.val) :
    prepA h1 h2 hu h3 A v (ix2 0 (colOf c k)) = v (Shape.Idx.first hu) := by
  rw [prepA_cast]
  exact pad_apply_of_not_inside _ _ _ _ v h2 hu _ 1 (by
    rintro ⟨-, -, h⟩
    have h' : (k.val - 0) / (0 + 1) < 2500 := h
    omega)

end

/-- The search of a block over the prepared arrays sees, at a candidate, the squared distance. -/
theorem colSq_prep_in (h1 h2 hu h3 h1' h2' hu' h3') (y : (⟨2, ![4096, 2]⟩ : Shape).Idx → EReal)
    (x : (⟨2, ![4096, 128]⟩ : Shape).Idx → EReal) (B : (⟨3, ![2500, 2, 128]⟩ : Shape).Idx → EReal) (A : (⟨2, ![2500, 2]⟩ : Shape).Idx → EReal)
    (v v' : (⟨0, ![]⟩ : Shape).Idx → EReal)
    (xb : (⟨2, ![256, 128]⟩ : Shape).Idx → EReal) (y0 y1 : (⟨2, ![256, 1]⟩ : Shape).Idx → EReal) (r : Fin 256) (R : Fin 4096)
    (hx : ∀ q, xb (ix2 r q) = x (ix2 R q)) (hy0 : y0 (ix2 r 0) = y (ix2 R 0)) (hy1 : y1 (ix2 r 0) = y (ix2 R 1))
    (k : Fin 2560) (k' : Fin 2500) (hk : k.val = k'.val) :
    colSq xb (prepW h1 h2 hu h3 B v) (prepA h1' h2' hu' h3' A v') y0 y1 r k = sqDist y x B A R k' := by
  have p0 : proj xb (prepW h1 h2 hu h3 B v) (prepA h1' h2' hu' h3' A v') r ⟨k.val, by have := k.isLt; omega⟩ = surf x B A R k' 0 := by
    have e : (⟨k.val, by have := k.isLt; omega⟩ : Fin 5120) = colOf 0 k := Fin.ext (by simp [colOf])
    unfold proj surf
    rw [e, prepA_in A v' h1' h2' hu' h3' 0 k k' hk]
    exact congrArg (· + _) (Finset.sum_congr rfl fun q _ => by rw [prepW_in B v h1 h2 hu h3 q 0 k k' hk, hx])
  have p1 : proj xb (prepW h1 h2 hu h3 B v) (prepA h1' h2' hu' h3' A v') r ⟨2560 + k.val, by have := k.isLt; omega⟩ = surf x B A R k' 1 := by
    have e : (⟨2560 + k.val, by have := k.isLt; omega⟩ : Fin 5120) = colOf 1 k := Fin.ext (by simp [colOf])
    unfold proj surf
    rw [e, prepA_in A v' h1' h2' hu' h3' 1 k k' hk]
    exact congrArg (· + _) (Finset.sum_congr rfl fun q _ => by rw [prepW_in B v h1 h2 hu h3 q 1 k k' hk, hx])
  unfold colSq sqDist
  rw [p0, p1, hy0, hy1]

/-- Behind the candidates it sees the squared distance to the padding's point, the weights' padding being zero. -/
theorem colSq_prep_out (h1 h2 hu h3 h1' h2' hu' h3') (y : (⟨2, ![4096, 2]⟩ : Shape).Idx → EReal)
    (B : (⟨3, ![2500, 2, 128]⟩ : Shape).Idx → EReal) (A : (⟨2, ![2500, 2]⟩ : Shape).Idx → EReal)
    (v v' : (⟨0, ![]⟩ : Shape).Idx → EReal) (hv : v (Shape.Idx.first hu) = 0)
    (xb : (⟨2, ![256, 128]⟩ : Shape).Idx → EReal) (y0 y1 : (⟨2, ![256, 1]⟩ : Shape).Idx → EReal) (r : Fin 256) (R : Fin 4096)
    (hy0 : y0 (ix2 r 0) = y (ix2 R 0)) (hy1 : y1 (ix2 r 0) = y (ix2 R 1)) (k : Fin 2560) (hk : 2500 ≤ k.val) :
    colSq xb (prepW h1 h2 hu h3 B v) (prepA h1' h2' hu' h3' A v') y0 y1 r k
      = (v' (Shape.Idx.first hu') - y (ix2 R 0)) * (v' (Shape.Idx.first hu') - y (ix2 R 0))
        + (v' (Shape.Idx.first hu') - y (ix2 R 1)) * (v' (Shape.Idx.first hu') - y (ix2 R 1)) := by
  have p (c : Fin 2) : proj xb (prepW h1 h2 hu h3 B v) (prepA h1' h2' hu' h3' A v') r (colOf c k) = v' (Shape.Idx.first hu') := by
    unfold proj
    rw [prepA_out A v' h1' h2' hu' h3' c k hk, Finset.sum_eq_zero (fun q _ => by
      rw [prepW_out B v h1 h2 hu h3 q c k hk, hv, mul_zero]), zero_add]
  have e0 : (⟨k.val, by have := k.isLt; omega⟩ : Fin 5120) = colOf 0 k := Fin.ext (by simp [colOf])
  have e1 : (⟨2560 + k.val, by have := k.isLt; omega⟩ : Fin 5120) = colOf 1 k := Fin.ext (by simp [colOf])
  unfold colSq
  rw [e0, e1, p, p, hy0, hy1]

end Cert.Proof

end
-- ==== Proof.Bounded.lean ====
/-
  The bounds of the precondition: under them the padding's point is no nearer to any row's point than the first candidate is,
  so the padding never wins the search.
-/
module

public import proofs.«01_k».proof.Proof.RefSearch

@[expose] public section

set_option maxRecDepth 16384

noncomputable section

namespace Cert.Proof

open Idealize.ShloMosaic

/-- The bound on points and offsets is a real number. -/
theorem ofBits_half : Ideal.ofBits FTy.f32 0x5CDE0B6B#32 = ((14551915 * 2 ^ 35 : ℝ) : EReal) := by
  simp [Ideal.ofBits, Ideal.ieee, -EReal.coe_mul]

/-- The bound on the features is a real number. -/
theorem ofBits_e8 : Ideal.ofBits FTy.f32 0x4CBEBC20#32 = ((100000000 : ℝ) : EReal) := by
  simp [Ideal.ofBits, Ideal.ieee, -EReal.coe_mul]; norm_num

/-- The bound on the weights is a real number. -/
theorem ofBits_e7 : Ideal.ofBits FTy.f32 0x4B189680#32 = ((10000000 : ℝ) : EReal) := by
  simp [Ideal.ofBits, Ideal.ieee, -EReal.coe_mul]

/-- The padding's coordinate is a real number, four times the bound on points. -/
theorem ofBits_pad : Ideal.ofBits FTy.f32 0x5DDE0B6B#32 = ((14551915 * 2 ^ 37 : ℝ) : EReal) := by
  simp [Ideal.ofBits, Ideal.ieee, -EReal.coe_mul]

/-- An extended real of bounded magnitude is a real number of that magnitude. -/
theorem exists_real {a : EReal} {c : ℝ} (h : max a (-a) ≤ (c : EReal)) : ∃ t : ℝ, a = (t : EReal) ∧ |t| ≤ c := by
  induction a using EReal.rec with
  | bot => exact absurd ((le_max_right _ _).trans h) (by simp)
  | top => exact absurd ((le_max_left _ _).trans h) (by simp)
  | coe t =>
    refine ⟨t, rfl, abs_le'.2 ⟨?_, ?_⟩⟩
    · exact_mod_cast (le_max_left _ _).trans h
    · exact_mod_cast (le_max_right _ _).trans h

/-- The precondition's bounds, entry by entry. -/
structure Within (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) : Prop where
  /-- The points are bounded. -/
  hy : ∀ i, max (y i) (-(y i)) ≤ Ideal.ofBits FTy.f32 0x5CDE0B6B#32
  /-- The features are bounded. -/
  hx : ∀ i, max (x i) (-(x i)) ≤ Ideal.ofBits FTy.f32 0x4CBEBC20#32
  /-- The weights are bounded. -/
  hB : ∀ i, max (B i) (-(B i)) ≤ Ideal.ofBits FTy.f32 0x4B189680#32
  /-- The offsets are bounded. -/
  hA : ∀ i, max (A i) (-(A i)) ≤ Ideal.ofBits FTy.f32 0x5CDE0B6B#32

/-- A sum of extended reals that are real numbers is the real numbers' sum. -/
theorem sum_coe {n : ℕ} (f : Fin n → ℝ) : (∑ q, (f q : EReal)) = ((∑ q, f q : ℝ) : EReal) := by
  induction n with
  | zero => simp
  | succ n ih => rw [Fin.sum_univ_succ, Fin.sum_univ_succ, ih, EReal.coe_add]

/-- Under the bounds, the distance of a candidate's coordinate from the point's is a real number no larger than the padding's. -/
theorem Within.coord {y : (⟨2, ![4096, 2]⟩ : Shape).Idx → EReal} {x : (⟨2, ![4096, 128]⟩ : Shape).Idx → EReal}
    {B : (⟨3, ![2500, 2, 128]⟩ : Shape).Idx → EReal} {A : (⟨2, ![2500, 2]⟩ : Shape).Idx → EReal} (h : Within y x B A)
    (r : Fin 4096) (k : Fin 2500) (c : Fin 2) :
    (surf x B A r k c - y (ix2 r c)) * (surf x B A r k c - y (ix2 r c))
      ≤ (Ideal.ofBits FTy.f32 0x5DDE0B6B#32 - y (ix2 r c)) * (Ideal.ofBits FTy.f32 0x5DDE0B6B#32 - y (ix2 r c)) := by
  obtain ⟨t, ht, bt⟩ := exists_real ((h.hy (ix2 r c)).trans_eq ofBits_half)
  obtain ⟨s, hs, bs⟩ := exists_real ((h.hA (ix2 k c)).trans_eq ofBits_half)
  choose fx hfx bfx using fun q : Fin 128 => exists_real ((h.hx (ix2 r q)).trans_eq ofBits_e8)
  choose fb hfb bfb using fun q : Fin 128 => exists_real ((h.hB (ix3 k c q)).trans_eq ofBits_e7)
  have hsum : surf x B A r k c = ((∑ q, fx q * fb q + s : ℝ) : EReal) := by
    unfold surf
    rw [hs, EReal.coe_add, ← sum_coe]
    exact congrArg (· + _) (Finset.sum_congr rfl fun q _ => by rw [hfx, hfb, EReal.coe_mul])
  have bsum : |∑ q, fx q * fb q| ≤ 128 * 1000000000000000 := by
    refine (Finset.abs_sum_le_sum_abs _ _).trans ((Finset.sum_le_card_nsmul _ _ 1000000000000000 fun q _ => ?_).trans (by simp))
    rw [abs_mul]
    exact (mul_le_mul (bfx q) (bfb q) (abs_nonneg _) (by norm_num)).trans (by norm_num)
  rw [hsum, ht, ofBits_pad, ← EReal.coe_sub, ← EReal.coe_mul, ← EReal.coe_sub, ← EReal.coe_mul]
  norm_cast
  rw [abs_le] at bt bs bsum
  have hle : |∑ q, fx q * fb q + s - t| ≤ |(14551915 * 2 ^ 37 : ℝ) - t| := by
    rw [abs_of_nonneg (a := (14551915 * 2 ^ 37 : ℝ) - t) (by norm_num at bt ⊢; linarith), abs_le]
    constructor <;> norm_num at bt bs bsum ⊢ <;> linarith
  have := mul_self_le_mul_self (abs_nonneg _) hle
  rw [abs_mul_abs_self, abs_mul_abs_self] at this
  exact_mod_cast this

/-- So the padding's point is no nearer than any candidate. -/
theorem Within.pad_ge {y : (⟨2, ![4096, 2]⟩ : Shape).Idx → EReal} {x : (⟨2, ![4096, 128]⟩ : Shape).Idx → EReal}
    {B : (⟨3, ![2500, 2, 128]⟩ : Shape).Idx → EReal} {A : (⟨2, ![2500, 2]⟩ : Shape).Idx → EReal} (h : Within y x B A)
    (r : Fin 4096) (k : Fin 2500) :
    sqDist y x B A r k
      ≤ (Ideal.ofBits FTy.f32 0x5DDE0B6B#32 - y (ix2 r 0)) * (Ideal.ofBits FTy.f32 0x5DDE0B6B#32 - y (ix2 r 0))
        + (Ideal.ofBits FTy.f32 0x5DDE0B6B#32 - y (ix2 r 1)) * (Ideal.ofBits FTy.f32 0x5DDE0B6B#32 - y (ix2 r 1)) :=
  add_le_add (h.coord r k 0) (h.coord r k 1)

end Cert.Proof

end
-- ==== Proof.Block.lean ====
/-
  One block of the kernel's search over the prepared arrays: under the precondition's bounds the word of a row is that of the
  candidate nearest to the row's point.
-/
module

public import proofs.«01_k».proof.Proof.Prep
public import proofs.«01_k».proof.Proof.Bounded

@[expose] public section

set_option maxRecDepth 16384

noncomputable section

namespace Cert.Proof

open Idealize.ShloMosaic

/-- The kernel's word for row `r` of a block that holds rows `R` of the arguments is the nearest candidate's. -/
theorem search_prep (d1 d2 d3 d4 d5 d6 hwf) (e1 e2 e3 e4 e5) (h1 h2 hu h3 h1' h2' hu' h3')
    (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) (hW : Within y x B A)
    (v v' : (⟨0, ![]⟩ : Shape).Idx → EReal) (hv : v (Shape.Idx.first hu) = 0) (hv' : v' (Shape.Idx.first hu') = Ideal.ofBits FTy.f32 0x5DDE0B6B#32)
    (xb : (⟨2, ![256, 128]⟩ : Shape).Idx → EReal) (y0 y1 : (⟨2, ![256, 1]⟩ : Shape).Idx → EReal) (r : Fin 256) (R : Fin 4096)
    (hx : ∀ q, xb (ix2 r q) = x (ix2 R q)) (hy0 : y0 (ix2 r 0) = y (ix2 R 0)) (hy1 : y1 (ix2 r 0) = y (ix2 R 1)) :
    search (sqMat ⟨[1], [0], [0], [1], [], [], hwf⟩ d1 d2 d3 d4 d5 d6 xb (prepW h1 h2 hu h3 B v) (prepA h1' h2' hu' h3' A v') y0 y1)
      e1 e2 e3 e4 e5 (ix3 0 0 r) = BitVec.ofNat 32 (nearest y x B A R).val := by
  refine search_apply _ e1 e2 e3 e4 e5 r (Fin.castLE (by omega) (nearest y x B A R)) ?_
  refine (nearest_spec y x B A R).extend (k := 0) (by omega) (fun j => ?_) (fun j hj => ?_)
  · rw [sqMat_apply]
    exact colSq_prep_in h1 h2 hu h3 h1' h2' hu' h3' y x B A v v' xb y0 y1 r R hx hy0 hy1 _ j rfl
  · rw [sqMat_apply, colSq_prep_out h1 h2 hu h3 h1' h2' hu' h3' y B A v v' hv xb y0 y1 r R hy0 hy1 j hj, hv']
    exact hW.pad_ge R 0

end Cert.Proof

end
-- ==== Proof.BlockWords.lean ====
/-
  The words of the nearest candidates in the shape in which the kernel stores them: sixteen blocks of 256 rows.
-/
module

public import proofs.«01_k».proof.Proof.RefSearch

@[expose] public section

set_option maxRecDepth 16384

noncomputable section

namespace Cert.Proof

open Idealize.ShloMosaic

/-- Row `r` of block `t` is row `256 t + r` of the arguments. -/
def rowOf (t : Fin 16) (r : Fin 256) : Fin 4096 := ⟨256 * t.val + r.val, by have := t.isLt; have := r.isLt; omega⟩

/-- The words of the nearest candidates, block by block. -/
def blockWords (y : (⟨2, ![4096, 2]⟩ : Shape).Idx → EReal) (x : (⟨2, ![4096, 128]⟩ : Shape).Idx → EReal)
    (B : (⟨3, ![2500, 2, 128]⟩ : Shape).Idx → EReal) (A : (⟨2, ![2500, 2]⟩ : Shape).Idx → EReal) :
    (⟨3, ![16, 1, 256]⟩ : Shape).Idx → BitVec 32 :=
  fun i => BitVec.ofNat 32 (nearest y x B A (rowOf (i 0) (i 2))).val

/-- They are the words row by row, reshaped. -/
theorem shapeCast_nearestWords (y x B A) (h : (⟨1, ![4096]⟩ : Shape).ShapeCasts ⟨3, ![16, 1, 256]⟩) :
    shapeCast ⟨3, ![16, 1, 256]⟩ (nearestWords y x B A) h = blockWords y x B A := by
  funext i
  refine (shapeCast_apply _ h i (ix1 (rowOf (i 0) (i 2))) ?_).trans rfl
  have h1 : (i 1).val = 0 := Nat.lt_one_iff.1 (i 1).isLt
  rw [Shape.rowMajor_val_one, Shape.rowMajor_val_three]
  show 256 * (i 0).val + (i 2).val = ((i 0).val * 1 + (i 1).val) * 256 + (i 2).val
  omega

/-- And back. -/
theorem shapeCast_blockWords (y x B A) (h : (⟨3, ![16, 1, 256]⟩ : Shape).ShapeCasts ⟨1, ![4096]⟩) :
    shapeCast ⟨1, ![4096]⟩ (blockWords y x B A) h = nearestWords y x B A := by
  funext i
  obtain ⟨r, rfl⟩ : ∃ r : Fin 4096, i = ix1 r := ⟨i 0, funext fun a => by rw [Fin.fin_one_eq_zero a]; rfl⟩
  have hr := r.isLt
  have hd : r.val / 256 < 16 := by omega
  have hm : r.val % 256 < 256 := by omega
  refine (shapeCast_apply _ h (ix1 r) (ix3 (⟨r.val / 256, hd⟩ : Fin 16) (0 : Fin 1) (⟨r.val % 256, hm⟩ : Fin 256)) ?_).trans ?_
  · rw [Shape.rowMajor_val_one, Shape.rowMajor_val_three]
    show (r.val / 256 * 1 + 0) * 256 + r.val % 256 = r.val
    omega
  · have e : rowOf (⟨r.val / 256, hd⟩ : Fin 16) (⟨r.val % 256, hm⟩ : Fin 256) = r :=
      Fin.ext (by show 256 * (r.val / 256) + r.val % 256 = r.val; omega)
    exact congrArg (fun R : Fin 4096 => BitVec.ofNat 32 (nearest y x B A R).val) e

/-- Every word names a candidate. -/
theorem nearestWords_lt (y x B A) (j) : (nearestWords y x B A j).toNat < 2500 := by
  have h := (nearest y x B A (j 0)).isLt
  unfold nearestWords
  rw [BitVec.toNat_ofNat, Nat.mod_eq_of_lt (by omega)]
  exact h

end Cert.Proof

end
-- ==== Proof.NearestValue.lean ====
/-
  What the nearest-point call leaves in its result at extended reals: under the precondition's bounds, the words of the
  nearest candidates.
-/
module

public import proofs.«01_k».proof.Proof.Block
public import proofs.«01_k».proof.Proof.BlockWords
public import proofs.«01_k».proof.Proof.Gen.NearestIdeal.Value
public import Idealize.ShloMosaic.Lib.Pipeline.ValueKit
public import Idealize.ShloMosaic.Lib.KernelVsHost

@[expose] public section

set_option maxRecDepth 16384

noncomputable section

namespace Cert.Proof.NearestValue

open Cert.NearestIdeal Cert.NearestIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (c : Dev nD)

/-- The weights the call is given. -/
theorem V_w : V m c main_v2 = prepW transposes_S2500x2x128_S128x2x2500_2_1_0 pads_S128x2x2500_S128x2x2560_000_000_0600 h_S_
    shapeCasts_S128x2x2560_S128x5120 (m ((c.tc : Thread nD τ).loc main_arg2)) (sitofp .f32 (constantI S_ 32 0#32)) := by
  simp only [V, List.flatten, List.append_eq, List.cons_append, List.nil_append, List.append_nil, hostOps0, hostOps0_1, hostOps0_2, hostOps0_3, hostOps0_4,
    StableHlo.TRef.binary, StableHlo.TRef.unary, StableHlo.TRef.toBuf, StableHlo.TRef.ofBuf, cast_eq]
  after_results <;> rfl

/-- The offsets the call is given. -/
theorem V_a : V m c main_v5 = prepA transposes_S2500x2_S2x2500_1_0 pads_S2x2500_S2x2560_000_0600 h_S_
    shapeCasts_S2x2560_S1x5120 (m ((c.tc : Thread nD τ).loc main_arg3)) (constant S_ .f32 0x5DDE0B6B#32) := by
  simp only [V, List.flatten, List.append_eq, List.cons_append, List.nil_append, List.append_nil, hostOps0, hostOps0_1, hostOps0_2, hostOps0_3, hostOps0_4,
    StableHlo.TRef.binary, StableHlo.TRef.unary, StableHlo.TRef.toBuf, StableHlo.TRef.ofBuf, cast_eq]
  after_results <;> rfl

/-- Where each window's block of a point sits. -/
theorem idx : ∀ t : Fin cfg0.N, win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0, 0] :=
  (by decide +kernel : ∀ t : Fin grid0.N, _)

/-- A point's block of points is 256 rows of the argument. -/
theorem iblk0 (t : Fin cfg0.N) (r : Fin 256) (q : Fin 128) :
    iblk m c 0 t (ix2 r q) = m ((c.tc : Thread nD τ).loc main_arg1) (ix2 (rowOf (grid0.coords t 0) r) q) := by
  unfold rowOf
  blk_ext [iblk, V, idx t]

/-- A point's block of labels is 256 rows of the argument. -/
theorem iblk3 (t : Fin cfg0.N) (r : Fin 256) (q : Fin 2) :
    iblk m c 3 t (ix2 r q) = m ((c.tc : Thread nD τ).loc main_arg0) (ix2 (rowOf (grid0.coords t 0) r) q) := by
  unfold rowOf
  blk_ext [iblk, V, idx t]

/-- Its first column. -/
theorem ld0 (t : Fin cfg0.N) (r : Fin 256) :
    View.ld (iblk m c 3 t) r0_3 (ix2 r 0) = m ((c.tc : Thread nD τ).loc main_arg0) (ix2 (rowOf (grid0.coords t 0) r) 0) := by
  refine (congrArg (iblk m c 3 t) (a₂ := ix2 r 0) (funext fun a => Fin.ext ?_)).trans (iblk3 m c t r 0)
  match a with
  | ⟨0, _⟩ => show 0 + 1 * r.val = r.val; omega
  | ⟨1, _⟩ => rfl

/-- Its second column. -/
theorem ld1 (t : Fin cfg0.N) (r : Fin 256) :
    View.ld (iblk m c 3 t) r0_4 (ix2 r 0) = m ((c.tc : Thread nD τ).loc main_arg0) (ix2 (rowOf (grid0.coords t 0) r) 1) := by
  refine (congrArg (iblk m c 3 t) (a₂ := ix2 r 1) (funext fun a => Fin.ext ?_)).trans (iblk3 m c t r 1)
  match a with
  | ⟨0, _⟩ => show 0 + 1 * r.val = r.val; omega
  | ⟨1, _⟩ => rfl

/-- A point's block of weights is all of them. -/
theorem iblk1 (t : Fin cfg0.N) : iblk m c 1 t = V m c main_v2 := by
  funext i
  blk_ext [iblk, idx t]

/-- A point's block of offsets is all of them. -/
theorem iblk2 (t : Fin cfg0.N) : iblk m c 2 t = V m c main_v5 := by
  funext i
  blk_ext [iblk, idx t]

end

/-- The body's payload is the search of the squared distances. -/
theorem pay_eq (v0 : Vec Ideal S256x128 .f32) (v1 : Vec Ideal S128x5120 .f32) (v4 : Vec Ideal S1x5120 .f32) (v9 v13 : Vec Ideal S256x1 .f32) :
    k0_pay1 v0 v1 v4 v9 v13 = search (sqMat dot_S256x128_S128x5120_S256x5120_1_0_0_1_n_n shapeCasts_S128x5120_S128x5120 shapeCasts_S1x5120_S1x5120
      broadcasts_S1x5120_S256x5120 broadcasts_S256x1_S256x2560 slices_S256x5120_o0_0_S256x2560 slices_S256x5120_o0_2560_S256x2560 v0 v1 v4 v9 v13)
      reduces_S256x2560_S256 shapeCasts_S256_S256x1 iota_S256x2560_d1_w32 broadcasts_S256x1_S256x2560 shapeCasts_S256_S1x1x256 := rfl

variable (m : (ℓ : Loc nD τ sig) → Buf (Elt Ideal) ℓ) (c : Dev nD)

/-- What the body leaves at a point, row by row. -/
theorem out_apply (hW : Within (m ((c.tc : Thread nD τ).loc main_arg0)) (m ((c.tc : Thread nD τ).loc main_arg1)) (m ((c.tc : Thread nD τ).loc main_arg2))
      (m ((c.tc : Thread nD τ).loc main_arg3))) (t : Fin cfg0.N) (r : Fin 256) :
    out0_4 (iblk m c 0 t) (iblk m c 1 t) (iblk m c 2 t) (iblk m c 3 t) (ix3 0 0 r)
      = BitVec.ofNat 32 (nearest (m ((c.tc : Thread nD τ).loc main_arg0)) (m ((c.tc : Thread nD τ).loc main_arg1)) (m ((c.tc : Thread nD τ).loc main_arg2))
      (m ((c.tc : Thread nD τ).loc main_arg3)) (rowOf (grid0.coords t 0) r)).val := by
  frame_out
  rw [pay_eq, iblk1, iblk2, V_w, V_a]
  exact search_prep _ _ _ _ _ _ _ _ _ _ _ _ _ _ _ _ _ _ _ _ _ _ _ _ hW _ _ (sitofp_zero (φ := .f32)) rfl _ _ _ r _
    (fun q => iblk0 m c t r q) (ld0 m c t r) (ld1 m c t r)

/-- The result: the words of the nearest candidates, block by block. -/
theorem final (hW : Within (m ((c.tc : Thread nD τ).loc main_arg0)) (m ((c.tc : Thread nD τ).loc main_arg1)) (m ((c.tc : Thread nD τ).loc main_arg2))
      (m ((c.tc : Thread nD τ).loc main_arg3))) :
    (dats m 0 c).arrAt 4 cfg0.N = blockWords (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨r, rfl⟩ : ∃ r : Fin 256, y = ix3 0 0 r := ⟨y 2, funext fun a => by
    match a with
    | ⟨0, _⟩ => exact Fin.ext (Nat.lt_one_iff.1 (y 0).isLt)
    | ⟨1, _⟩ => exact Fin.ext (Nat.lt_one_iff.1 (y 1).isLt)
    | ⟨2, _⟩ => rfl⟩
  refine (out_apply m c hW t r).trans ?_
  refine congrArg (fun R : Fin 4096 => BitVec.ofNat 32 (nearest (m ((c.tc : Thread nD τ).loc main_arg0)) (m ((c.tc : Thread nD τ).loc main_arg1))
      (m ((c.tc : Thread nD τ).loc main_arg2)) (m ((c.tc : Thread nD τ).loc main_arg3)) R).val) (Fin.ext ?_)
  unfold rowOf
  blk_simp [idx t]
  show 256 * (grid0.coords t 0).val + r.val = 256 * ((grid0.coords t 0).val + 0) + r.val
  omega

end Cert.Proof.NearestValue

end
-- ==== Proof.NearestRef.lean ====
/-
  The nearest-point reference at extended reals: what every execution of it ends with.
-/
module

public import proofs.«01_k».proof.Proof.Gen.NearestRefIdeal
public import proofs.«01_k».proof.Proof.BlockWords
public import Idealize.ShloMosaic.Lib.StableHlo.Run
public import Idealize.ShloMosaic.Lib.Pipeline.Frame

@[expose] public section

set_option maxRecDepth 16384

noncomputable section

namespace Cert.Proof.NearestRef

open Cert.NearestRefIdeal Cert.NearestRefIdeal.Gen Idealize.ShloMosaic Idealize.ShloMosaic.TcCoe Idealize.SL.Sem Idealize.ShloMosaic.StableHlo

variable {F : FTy → Type} [FloatOps F]

/-- The operations that search for the nearest candidates. -/
abbrev searchOps : List (HloOp τ sig (Elt F)) :=
  [ binary main_arg1 main_arg2 main_v0 ((fun l r => Host.dotGeneral dot_S4096x128_S2500x2x128_S4096x2500x2_1_2_0_01_n_n none l r) : (⟨S4096x128, .f32⟩ : BufTy).Contents (Elt F) → (⟨S2500x2x128, .f32⟩ : BufTy).Contents (Elt F) → (⟨S4096x2500x2, .f32⟩ : BufTy).Contents (Elt F)),
    unary main_arg3 main_v1 (broadcastInDim S1x2500x2 ![1, 2] bcast_S2500x2_S1x2500x2_1_2 : (⟨S2500x2, .f32⟩ : BufTy).Contents (Elt F) → (⟨S1x2500x2, .f32⟩ : BufTy).Contents (Elt F)),
    unary main_v1 main_v2 (broadcastInDim S4096x2500x2 ![0, 1, 2] bcast_S1x2500x2_S4096x2500x2_0_1_2 : (⟨S1x2500x2, .f32⟩ : BufTy).Contents (Elt F) → (⟨S4096x2500x2, .f32⟩ : BufTy).Contents (Elt F)),
    binary main_v0 main_v2 main_v3 (addf : (⟨S4096x2500x2, .f32⟩ : BufTy).Contents (Elt F) → (⟨S4096x2500x2, .f32⟩ : BufTy).Contents (Elt F) → (⟨S4096x2500x2, .f32⟩ : BufTy).Contents (Elt F)),
    unary main_arg0 main_v4 (broadcastInDim S4096x1x2 ![0, 2] bcast_S4096x2_S4096x1x2_0_2 : (⟨S4096x2, .f32⟩ : BufTy).Contents (Elt F) → (⟨S4096x1x2, .f32⟩ : BufTy).Contents (Elt F)),
    unary main_v4 main_v5 (broadcastInDim S4096x2500x2 ![0, 1, 2] bcast_S4096x1x2_S4096x2500x2_0_1_2 : (⟨S4096x1x2, .f32⟩ : BufTy).Contents (Elt F) → (⟨S4096x2500x2, .f32⟩ : BufTy).Contents (Elt F)),
    binary main_v3 main_v5 main_v6 (subf : (⟨S4096x2500x2, .f32⟩ : BufTy).Contents (Elt F) → (⟨S4096x2500x2, .f32⟩ : BufTy).Contents (Elt F) → (⟨S4096x2500x2, .f32⟩ : BufTy).Contents (Elt F)),
    TRef.binary (TRef.of (T := ⟨S4096x2500x2, .f32⟩) main_v6) (TRef.of (T := ⟨S4096x2500x2, .f32⟩) main_v6) (TRef.of (T := ⟨S4096x2500x2, .f32⟩) main_call0_v0) mulf,
    TRef.nullary (TRef.of (T := ⟨S_, .f32⟩) main_call0_cst) (constant S_ .f32 0x00000000#32),
    TRef.binary (TRef.of (T := ⟨S4096x2500x2, .f32⟩) main_call0_v0) (TRef.of (T := ⟨S_, .f32⟩) main_call0_cst) (TRef.of (T := ⟨S4096x2500, .f32⟩) main_call0_v1) (fun x v => Host.reduceAdd x v reducesTo_S4096x2500x2_S4096x2500_d2 h_S_),
    TRef.unary (TRef.of (T := ⟨S4096x2500, .f32⟩) main_call0_v1) (TRef.of (T := ⟨S4096x2500, .f32⟩) main_v7) Host.sqrt,
    TRef.nullary (TRef.of (T := ⟨S4096x2500, .i32⟩) main_call1_v0) (iotaInDim S4096x2500 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S4096x2500, .f32⟩) main_v7) (TRef.of (T := ⟨S4096x2500, .i32⟩) main_call1_v0) (TRef.of (T := ⟨S_, .f32⟩) main_call1_cst) (TRef.of (T := ⟨S_, .i32⟩) main_call1_c) (TRef.of (T := ⟨S4096, .f32⟩) main_call1_v1_0) (fun x y u v j => (Host.argReduce reducer_argmin_f32_i32 x y u v reducesTo_S4096x2500_S4096_d1 h_S_ j).1),
    TRef.quaternary (TRef.of (T := ⟨S4096x2500, .f32⟩) main_v7) (TRef.of (T := ⟨S4096x2500, .i32⟩) main_call1_v0) (TRef.of (T := ⟨S_, .f32⟩) main_call1_cst) (TRef.of (T := ⟨S_, .i32⟩) main_call1_c) (TRef.of (T := ⟨S4096, .i32⟩) main_v8) (fun x y u v j => (Host.argReduce reducer_argmin_f32_i32 x y u v reducesTo_S4096x2500_S4096_d1 h_S_ j).2) ]

/-- The words reshaped to the blocks of the kernel. -/
abbrev lastOps : List (HloOp τ sig (Elt F)) :=
  [ reshape main_v8 main_v9 (rfl : (.i32 : EltTy) = .i32) shapeCasts_S4096_S16x1x256 ]

theorem main_eq (c : Dev nD) : main (F := F) c = seq (searchOps ++ lastOps) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (searchOps ++ lastOps : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., nullary_bufs_sub .., nullary_bufs_sub .., quaternary_bufs_sub .., quaternary_bufs_sub .., reshape_bufs_sub ..⟩

variable (V : ∀ b : DevRef τ sig, b.ty.Contents (Elt Ideal))

/-- The search leaves the words of the nearest candidates. -/
theorem search_after : after (searchOps (F := Ideal)) V (Proc.devRef .tc main_v8)
    = nearestWords (V (Proc.devRef .tc main_arg0)) (V (Proc.devRef .tc main_arg1)) (V (Proc.devRef .tc main_arg2)) (V (Proc.devRef .tc main_arg3)) := by
  refine Eq.trans ?_ (refSearch_eq (reducer_argmin_f32_i32 (F := Ideal)) step_eq dot_S4096x128_S2500x2x128_S4096x2500x2_1_2_0_01_n_n_wf
    bcast_S2500x2_S1x2500x2_1_2 bcast_S1x2500x2_S4096x2500x2_0_1_2 bcast_S4096x2_S4096x1x2_0_2 bcast_S4096x1x2_S4096x2500x2_0_1_2
    reducesTo_S4096x2500x2_S4096x2500_d2 h_S_ reducesTo_S4096x2500_S4096_d1 _ _ _ _)
  simp only [searchOps, lastOps, TRef.binary, TRef.nullary, TRef.ternary, TRef.quaternary, TRef.unary, TRef.toBuf, TRef.ofBuf, cast_eq]
  after_results <;> rfl

/-- The reshape of the words. -/
theorem last_after : after (lastOps (F := Ideal)) V (Proc.devRef .tc main_v9) = shapeCast S16x1x256 (V (Proc.devRef .tc main_v8)) shapeCasts_S4096_S16x1x256 := by
  simp only [searchOps, lastOps, TRef.binary, TRef.nullary, TRef.ternary, TRef.quaternary, TRef.unary, TRef.toBuf, TRef.ofBuf, cast_eq]
  after_results <;> rfl

/-- The result: the words of the nearest candidates, block by block. -/
theorem result_after : after (searchOps (F := Ideal) ++ lastOps) V (Proc.devRef .tc main_v9) = blockWords (V (Proc.devRef .tc main_arg0)) (V (Proc.devRef .tc main_arg1)) (V (Proc.devRef .tc main_arg2)) (V (Proc.devRef .tc main_arg3)) := by
  rw [after_append, last_after, search_after]
  exact shapeCast_nearestWords _ _ _ _ _

/-- No operation writes argument 0. -/
theorem arg0_after : after (searchOps (F := Ideal) ++ lastOps) V (Proc.devRef .tc main_arg0) = V (Proc.devRef .tc main_arg0) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 1. -/
theorem arg1_after : after (searchOps (F := Ideal) ++ lastOps) V (Proc.devRef .tc main_arg1) = V (Proc.devRef .tc main_arg1) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 2. -/
theorem arg2_after : after (searchOps (F := Ideal) ++ lastOps) V (Proc.devRef .tc main_arg2) = V (Proc.devRef .tc main_arg2) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 3. -/
theorem arg3_after : after (searchOps (F := Ideal) ++ lastOps) V (Proc.devRef .tc main_arg3) = V (Proc.devRef .tc main_arg3) := by
  simp only [List.cons_append, List.nil_append]
  simp only [searchOps, lastOps, TRef.binary, TRef.nullary, TRef.ternary, TRef.quaternary, TRef.unary, TRef.toBuf, TRef.ofBuf, cast_eq]
  after_results <;> rfl

/-- Every execution of the reference ends with the words of the nearest candidates, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = blockWords (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v9).trans (result_after _),
      (h c main_arg0).trans (arg0_after _),
      (h c main_arg1).trans (arg1_after _),
      (h c main_arg2).trans (arg2_after _),
      (h c main_arg3).trans (arg3_after _)⟩)
    (run_seq scopedRefs_eq scopedSems_eq defs main (fun _ => searchOps ++ lastOps) main_eq (fun _ => ops_sub) m ρ)

end Cert.Proof.NearestRef

end
-- ==== Proof.PreBits.lean ====
/-
  Reading back the bits of a printed precondition.
-/
module

public import proofs.«01_k».proof.Proof.Bounded
public import Idealize.ShloMosaic.Lib.ReduceAll

@[expose] public section

set_option maxRecDepth 16384

noncomputable section

namespace Cert.Proof

open Idealize.ShloMosaic

/-- A comparison of magnitudes with a constant, read back. -/
theorem le_of_bit {s u : Shape} (d : Fin u.rank → Fin s.rank) (h : u.BroadcastsInDim s d) (x : FVec Ideal s .f32) (b : BitVec 32) (i : s.Idx)
    (e : cmpf .ole (Host.absf x) (broadcastInDim s d h (constant (F := Ideal) u .f32 b)) i = 1#1) :
    max (x i) (-(x i)) ≤ Ideal.ofBits FTy.f32 b := by
  have e' : BitVec.ofBool (decide (max (x i) (-(x i)) ≤ Ideal.ofBits FTy.f32 b)) = 1#1 := e
  by_contra hn
  rw [decide_eq_false hn] at e'
  exact absurd e' (by decide)

/-- A conjunction of two bits is one only if both are. -/
theorem bits_of_andi {s : Shape} (p q : IVec s 1) (j : s.Idx) (e : andi p q j = 1#1) : p j = 1#1 ∧ q j = 1#1 :=
  IntOp.andi_eq_one.1 e

end Cert.Proof

end
-- ==== Proof.PreNearest.lean ====
/-
  The precondition of the nearest-point call, read: every argument is bounded.
-/
module

public import proofs.«01_k».proof.Proof.PreBits
public import proofs.«01_k».proof.Proof.Gen.Pre_bounded_nearest

@[expose] public section

set_option maxRecDepth 16384

noncomputable section

namespace Cert.Proof

open Idealize.ShloMosaic

attribute [local instance] Cert.Pre_bounded_nearest.Gen.facts

/-- The precondition of the nearest-point call bounds its arguments. -/
theorem within_of_pre_nearest (y : FVec Ideal Cert.Pre_bounded_nearest.S4096x2 .f32) (x : FVec Ideal Cert.Pre_bounded_nearest.S4096x128 .f32)
    (B : FVec Ideal Cert.Pre_bounded_nearest.S2500x2x128 .f32) (A : FVec Ideal Cert.Pre_bounded_nearest.S2500x2 .f32)
    (h : Cert.Pre_bounded_nearest.fn y x B A = fun _ => 1#1) : Within y x B A := by
  haveI : Subsingleton Cert.Pre_bounded_nearest.S_.Idx := ⟨fun a b => funext fun k => k.elim0⟩
  have e := congrFun h (fun a => a.elim0)
  unfold Cert.Pre_bounded_nearest.fn Cert.Pre_bounded_nearest.fn_part1 at e
  obtain ⟨e, e3⟩ := bits_of_andi _ _ _ e
  obtain ⟨e, e2⟩ := bits_of_andi _ _ _ e
  obtain ⟨e0, e1⟩ := bits_of_andi _ _ _ e
  exact ⟨fun i => le_of_bit _ _ _ _ i (Host.reduce_andi_all _ _ _ _ _ e0 i), fun i => le_of_bit _ _ _ _ i (Host.reduce_andi_all _ _ _ _ _ e1 i),
    fun i => le_of_bit _ _ _ _ i (Host.reduce_andi_all _ _ _ _ _ e2 i), fun i => le_of_bit _ _ _ _ i (Host.reduce_andi_all _ _ _ _ _ e3 i)⟩

end Cert.Proof

end
-- ==== Proof.NearestClaims.lean ====
/-
  The claims about the nearest-point call with its host code: at machine floats and at extended reals every execution
  finishes with nothing left over, and at extended reals, for bounded arguments, the result is the reference's.
-/
module

public import proofs.«01_k».proof.Defs
public import proofs.«01_k».proof.Proof.NearestValue
public import proofs.«01_k».proof.Proof.NearestRef
public import proofs.«01_k».proof.Proof.PreNearest
public import proofs.«01_k».proof.Proof.Gen.Nearest
public import proofs.«01_k».proof.Proof.Gen.Nearest.Frame
public import Idealize.ShloMosaic.Lib.Quiescent

@[expose] public section

set_option maxRecDepth 16384

noncomputable section

namespace Cert.Proof.NearestClaims

open Idealize.ShloMosaic Idealize.SL.Sem

attribute [local instance] Cert.Nearest.Gen.facts Cert.NearestIdeal.Gen.facts Cert.NearestRefIdeal.Gen.facts Cert.Pre_bounded_nearest.Gen.facts

/-- At machine floats: the call with its host code finishes, leaves its arguments and every counter as they were. -/
theorem frame : Cert.quiescent_Nearest := fun m g _ => Cert.Nearest.Gen.frame m g

/-- The same at extended reals. -/
theorem frame_ideal : Cert.quiescent_NearestIdeal := fun m g _ => Cert.NearestIdeal.Gen.frame m g

/-- The same under the precondition. -/
theorem frame_ideal_pre : Cert.quiescent_NearestIdeal_pre_bounded_nearest := fun m g _ => Cert.NearestIdeal.Gen.frame m g

/-- The reference finishes and leaves its arguments as they were. -/
theorem frame_ref : Cert.quiescent_NearestRefIdeal := fun m g _ =>
  (θ_run Cert.NearestRefIdeal.defs _ _).mono (fun r h => ⟨fun c => (h c).2, sem_eq_zero_of_no_sems (by decide) r.2⟩)
    (NearestRef.run m g)

/-- The same under the precondition. -/
theorem frame_ref_pre : Cert.quiescent_NearestRefIdeal_pre_bounded_nearest := fun m g _ =>
  (θ_run Cert.NearestRefIdeal.defs _ _).mono (fun r h => ⟨fun c => (h c).2, sem_eq_zero_of_no_sems (by decide) r.2⟩)
    (NearestRef.run m g)

/-- At extended reals, for bounded arguments, the call with its host code and the reference end with equal results. -/
theorem algebraic : Cert.algebraic_NearestIdeal_NearestRefIdeal_pre_bounded_nearest := by
  intro m g m' g' hpre hagree
  refine ⟨fun c => (Cert.NearestIdeal.Gen.dats m 0 c).arrAt 4 Cert.NearestIdeal.cfg0.N, Cert.NearestIdeal.Value.run_blocks m g,
    (θ_run Cert.NearestRefIdeal.defs _ _).mono (fun r h c => ⟨(h c).1.trans ?_, (h c).2⟩) (NearestRef.run m' g')⟩
  rw [(hagree c).1, (hagree c).2.1, (hagree c).2.2.1, (hagree c).2.2.2]
  exact (NearestValue.final m c (within_of_pre_nearest _ _ _ _ (hpre c))).symm

end Cert.Proof.NearestClaims

end
-- ==== Proof.KernelIdealSc.lean ====
/-
  The SparseCore call of the whole kernel at real-number floats: two SparseCores of sixteen tiles, thirty-two tasks in all. Task `w` (tile `s` of core
  `c`, `w = 2 s + c`) fetches words `128 w … 128 w + 127` of the index array, gathers the rows of the table that they
  name into its row buffer by one indirect stream, and writes the buffer to the same rows of the output. This module
  proves one task (`task_run`) and the launch's obligations from it, for ANY contents `X` of the index array with every
  word below 2500 and `Tb` of the table: the output ends at `lookup X Tb`. Each task owns its part of the indices and of
  the output, and one of thirty-two shares of the table.
-/
module

public import proofs.«01_k».proof.Defs
public import proofs.«01_k».proof.Proof.RowLookup
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no buffer of a SparseCore is shared by its tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × UR sig nD τ × Counters

local notation "𝕄" => MT nD τ sig (HIx 1) (Elt F) ℕ UU ℕ

abbrev EH : Emb UH (MT nD τ sig (HIx 1) (Elt F) ℕ UU ℕ) := embL

/-! ## The three arrays and the two scratch buffers -/

abbrev iLoc (d : Dev nD) : Loc nD τ sig := (SparseCore.T d).loc main_v7
abbrev tLoc (d : Dev nD) : Loc nD τ sig := (SparseCore.T d).loc main_v8
abbrev oLoc (d : Dev nD) : Loc nD τ sig := (SparseCore.T d).loc main_v9

abbrev iV : Memref sig Kind.scVector Space.hbm S4096 EltTy.i32 := Memref.whole main_v7_scv
abbrev tV : Memref sig Kind.scVector Space.hbm S2500x128 EltTy.f32 := Memref.whole main_v8_scv
abbrev oV : Memref sig Kind.scVector Space.hbm S4096x128 EltTy.f32 := Memref.whole main_v9_scv
abbrev wordsV : Memref sig Kind.scVector Space.vmem S128 EltTy.i32 := Memref.whole cc1_scratch0
abbrev rowsV : Memref sig Kind.scVector Space.vmem S128x128 EltTy.f32 := Memref.whole cc1_scratch1

theorem idiv : 32 ∣ S4096.size 0 := ⟨128, rfl⟩
theorem odiv : 32 ∣ S4096x128.size 0 := ⟨128, rfl⟩
abbrev iPart (w : Fin 32) : Rect S4096 := Rect.part (s := S4096) (a₀ := 0) idiv w
abbrev oPart (w : Fin 32) : Rect S4096x128 := Rect.part (s := S4096x128) (a₀ := 0) odiv w
abbrev iSet (w : Fin 32) : Finset S4096.Idx := ((iV).view.slice (iPart w)).set
abbrev oSet (w : Fin 32) : Finset S4096x128.Idx := ((oV).view.slice (oPart w)).set

/-- Task `w`'s share of the table. -/
abbrev share (w : Fin 32) : PosShare TreeShare := Idealize.ShloMosaic.pieceOf fullShare 32 (by decide) w

/-- The task of tile `s` on core `c`. -/
def task (c : Fin 2) (s : Fin 16) : Fin 32 := ⟨2 * s.val + c.val, by omega⟩

/-! ## What the arrays hold at the call, and what the handshakes carry -/

-- The contents of the index array, and of the table, when the call is made.
variable (X : (d : Dev nD) → Buf (Elt F) (iLoc d)) (Tb : (d : Dev nD) → Buf (Elt F) (tLoc d))

/-- Every word of the index array names a row of the table. -/
def InRange : Prop := ∀ (d : Dev nD) (j : S4096.Idx), (show BitVec 32 from X d j).toNat < 2500

/-- The output after the call. -/
def Out (d : Dev nD) : Buf (Elt F) (oLoc d) := lookup (α := Elt F .f32) (X d) (Tb d)

abbrev iPts (d : Dev nD) (w : Fin 32) : sProp 𝕄 := iLoc d ↦[iSet w]{fullShare} X d
abbrev tPts (d : Dev nD) (w : Fin 32) : sProp 𝕄 := tLoc d ↦{share w} Tb d
abbrev oPts (d : Dev nD) (w : Fin 32) (f : Buf (Elt F) (oLoc d)) : sProp 𝕄 := oLoc d ↦[oSet w]{fullShare} f

/-- What task `w` starts from, -/
abbrev taskIn (d : Dev nD) (w : Fin 32) : sProp 𝕄 := iprop(iPts X d w ∗ tPts Tb d w ∗ ∃ f, oPts d w f)
/-- and what it leaves: its part of the output at the rows its words name. -/
abbrev taskOut (d : Dev nD) (w : Fin 32) : sProp 𝕄 := iprop(iPts X d w ∗ tPts Tb d w ∗ oPts d w (Out X Tb d))

theorem nSub_zero : (K (F := F)).nSub 0 = 16 := rfl
theorem nCore_zero : (K (F := F)).nCore 0 = 2 := rfl
abbrev taskK (c : Fin ((K (F := F)).nCore 0)) (s : Fin ((K (F := F)).nSub 0)) : Fin 32 :=
  task (Fin.cast (nCore_zero (F := F)) c) (Fin.cast (nSub_zero (F := F)) s)

/-- The payloads: a core is handed its sixteen tasks' holdings and hands back their results; a tile its own. -/
def P : (K (F := F)).Pay (nD := nD) (Val := Elt F) (Name := ℕ) (U := UU) where
  st := fun q d c => match q with | 0 => bigSep Finset.univ fun s => taskIn X Tb d (taskK c s)
  dn := fun q d c => match q with | 0 => bigSep Finset.univ fun s => taskOut X Tb d (taskK c s)
  go := fun q d c s => match q with | 0 => taskIn X Tb d (taskK c s)
  td := fun q d c s => match q with | 0 => taskOut X Tb d (taskK c s)
  x := fun _ _ => iprop(emp)

instance P_storable : (P (F := F) X Tb).IsStorable where
  st q d c := match q with
    | 0 => (inferInstance : BI.Storable (upEmb : UEmb _ 𝕄) (bigSep Finset.univ fun s => taskIn X Tb d (taskK c s)))
  dn q d c := match q with
    | 0 => (inferInstance : BI.Storable (upEmb : UEmb _ 𝕄) (bigSep Finset.univ fun s => taskOut X Tb d (taskK c s)))
  go q d c s := match q with
    | 0 => (inferInstance : BI.Storable (upEmb : UEmb _ 𝕄) (taskIn X Tb d (taskK c s)))
  td q d c s := match q with
    | 0 => (inferInstance : BI.Storable (upEmb : UEmb _ 𝕄) (taskOut X Tb d (taskK c s)))

/-! ## One task -/

section Tile

variable (d : Dev nD) (L : grid1.Coords)

abbrev cV (L : grid1.Coords) : Fin τ.nSC := (L 0).castLE hcore1
abbrev sV (L : grid1.Coords) : Fin τ.nSub := (L 1).castLE hsub1
/-- The task at a grid point. -/
abbrev wL (L : grid1.Coords) : Fin 32 := ⟨2 * (L 1).val + (L 0).val, by
  have h1 : (L 1).val < 16 := (L 1).isLt
  have h0 : (L 0).val < 2 := (L 0).isLt
  omega⟩

/-- The task's words and its rows of the output, and the whole table, as the kernel slices them. -/
abbrev iSl (L : grid1.Coords) : Memref sig .scVector .hbm S128 .i32 := (iV).slice (Rect.unit (s := S4096) (k1_off1 L) S128.size (k1_off1_inb L)) (fun _ => rfl)
abbrev oSl (L : grid1.Coords) : Memref sig .scVector .hbm S128x128 .f32 := (oV).slice (Rect.unit (s := S4096x128) (k1_off2 L) S128x128.size (k1_off2_inb L)) (fun _ => rfl)
abbrev tAll : Memref sig .scVector .hbm S2500x128 .f32 := (tV).slice (Rect.unit (s := S2500x128) ![0, 0] S2500x128.size inb_S2500x128_S2500x128_0_0) (fun _ => rfl)

theorem iRect_eq : Rect.unit (s := S4096) (k1_off1 L) S128.size (k1_off1_inb L) = iPart (wL L) := by
  unfold iPart Rect.part Rect.block
  congr 1 <;> funext a
  · rw [k1_off1_eq]
    match a with
    | 0 => simp [Shape.partIx, Shape.partSize]; omega
  · match a with
    | 0 => simp [Shape.partSize]
theorem oRect_eq : Rect.unit (s := S4096x128) (k1_off2 L) S128x128.size (k1_off2_inb L) = oPart (wL L) := by
  unfold oPart Rect.part Rect.block
  congr 1 <;> funext a
  · rw [k1_off2_eq]
    match a with
    | 0 => simp [Shape.partIx, Shape.partSize]; omega
    | 1 => simp [Shape.partIx, Shape.partSize]
  · match a with
    | 0 => simp [Shape.partSize]
    | 1 => simp [Shape.partSize]

theorem set_iSl : (iSl L).view.set = iSet (wL L) := by
  show ((iV).view.slice (Rect.unit (s := S4096) (k1_off1 L) S128.size (k1_off1_inb L))).set = _
  rw [iRect_eq]
theorem set_oSl : (oSl L).view.set = oSet (wL L) := by
  show ((oV).view.slice (Rect.unit (s := S4096x128) (k1_off2 L) S128x128.size (k1_off2_inb L))).set = _
  rw [oRect_eq]

theorem pts_iSl (f : Buf (Elt F) (iLoc d)) :
    ((iSl L).view.loc (V d (cV L) (sV L)) ↦[(iSl L).view.set]{fullShare} f : sProp 𝕄) = iLoc d ↦[iSet (wL L)]{fullShare} f := by
  rw [set_iSl]
theorem pts_oSl (f : Buf (Elt F) (oLoc d)) :
    ((oSl L).view.loc (V d (cV L) (sV L)) ↦[(oSl L).view.set]{fullShare} f : sProp 𝕄) = oLoc d ↦[oSet (wL L)]{fullShare} f := by
  rw [set_oSl]
theorem pts_tV (q : PosShare TreeShare) (f : Buf (Elt F) (tLoc d)) :
    ((tV).view.loc (V d (cV L) (sV L)) ↦{q} f : sProp 𝕄) = tLoc d ↦{q} f := rfl
theorem pts_wordsV (f : Buf (Elt F) ((V d (cV L) (sV L)).loc cc1_scratch0)) :
    ((wordsV).view.loc (V d (cV L) (sV L)) ↦{fullShare} f : sProp 𝕄) = (V d (cV L) (sV L)).loc cc1_scratch0 ↦{fullShare} f := rfl
theorem pts_rowsV (f : Buf (Elt F) ((V d (cV L) (sV L)).loc cc1_scratch1)) :
    ((rowsV).view.loc (V d (cV L) (sV L)) ↦{fullShare} f : sProp 𝕄) = (V d (cV L) (sV L)).loc cc1_scratch1 ↦{fullShare} f := rfl

/-- The tile's three transfer semaphores: the indices' fetch, the gather, the rows' write-out. -/
abbrev cellI (d : Dev nD) (c : Fin τ.nSC) (s : Fin τ.nSub) : GSem nD τ sig := (V d c s, .dma cc1_scoped0.sem)
abbrev cellG (d : Dev nD) (c : Fin τ.nSC) (s : Fin τ.nSub) : GSem nD τ sig := (V d c s, .dma cc1_scratch2.sem)
abbrev cellO (d : Dev nD) (c : Fin τ.nSC) (s : Fin τ.nSub) : GSem nD τ sig := (V d c s, .dma cc1_scoped1.sem)

/-- The tile's own semaphores are those three and the rest. -/
theorem ownSems0_split :
    (ownSems0 (V d (cV L) (sV L)) : sProp 𝕄)
      = iprop(semVal (cellI d (cV L) (sV L)) 0 ∗ semVal (cellG d (cV L) (sV L)) 0 ∗ semVal (cellO d (cV L) (sV L)) 0
          ∗ bigSep ((((ownCells (V d (cV L) (sV L))).erase (cellI d (cV L) (sV L))).erase (cellG d (cV L) (sV L))).erase (cellO d (cV L) (sV L))) fun g => semVal g 0) := by
  unfold SparseCore.Cfg.ownSems0
  rw [SparseCore.bigSep_erase' ((mem_ownCells (g := cellI d (cV L) (sV L))).mpr ⟨rfl, by
      show (SemLoc.dma cc1_scoped0.sem : SemLoc sig).isScoped .scVector = true; decide⟩),
    SparseCore.bigSep_erase' (Finset.mem_erase.mpr ⟨by simp [cellI, cellG]; decide, (mem_ownCells (g := cellG d (cV L) (sV L))).mpr ⟨rfl, by
      show (SemLoc.dma cc1_scratch2.sem : SemLoc sig).isScoped .scVector = true; decide⟩⟩),
    SparseCore.bigSep_erase' (Finset.mem_erase.mpr ⟨by simp [cellG, cellO]; decide, Finset.mem_erase.mpr ⟨by simp [cellI, cellO]; decide,
      (mem_ownCells (g := cellO d (cV L) (sV L))).mpr ⟨rfl, by show (SemLoc.dma cc1_scoped1.sem : SemLoc sig).isScoped .scVector = true; decide⟩⟩⟩)]

/-- The tile's own buffers are its two scratch buffers, at some contents, and the rest. -/
theorem ownBufs_split :
    (ownBufs (V d (cV L) (sV L)) : sProp 𝕄)
      = iprop((∃ f, (V d (cV L) (sV L)).loc cc1_scratch0 ↦{fullShare} f) ∗ (∃ f, (V d (cV L) (sV L)).loc cc1_scratch1 ↦{fullShare} f)
          ∗ bigSep (((ownRefs (τ := τ) (.scVector (cV L) (sV L))).erase ((Proc.scVector (cV L) (sV L)).devRef cc1_scratch0)).erase
              ((Proc.scVector (cV L) (sV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (sV L)) (b := (Proc.scVector (cV L) (sV L)).devRef cc1_scratch1) rfl⟩)]

/-- The words the task fetched, as its scratch buffer holds them: words `128 w …` of the index array. -/
theorem words_apply (fs : Buf (Elt F) ((V d (cV L) (sV L)).loc cc1_scratch0)) (k : Fin 128) :
    (wordsV).view.read (Elt F) (View.write (Elt F) (wordsV).view fs ((iSl L).view.read (Elt F) (X d)) Finset.univ) (ix1 k)
      = X d (ix1 ⟨256 * (L 1).val + 128 * (L 0).val + k.val, by
          have h1 : (L 1).val < 16 := (L 1).isLt
          have h0 : (L 0).val < 2 := (L 0).isLt
          omega⟩) := by
  rw [View.write_whole_univ]
  simp only [Memref.view_whole, View.read_whole]
  rw [View.read_apply, cast_eq]
  congr 1
  funext a
  match a with
  | 0 =>
    apply Fin.ext
    exact (congrArg (fun n => n + 1 * k.val) (congrFun (k1_off1_eq L) 0)).trans (by simp)

/-- Every word fetched names a row of the table. -/
theorem words_inRange (hX : InRange X) (fs : Buf (Elt F) ((V d (cV L) (sV L)).loc cc1_scratch0)) (pay : S128.Idx → Elt F .i32)
    (hpay : pay = (iSl L).view.read (Elt F) (X d)) :
    ∀ x, ((wordsV).view.read (Elt F) (View.write (Elt F) (wordsV).view fs pay Finset.univ) x).toNat < S2500x128.size gathers_S2500x128_S128x128.axis := by
  subst hpay; intro x
  have hx : x = ix1 (n0 := 128) (x 0) := eq_ix1 x
  rw [hx]
  exact (congrArg BitVec.toNat (words_apply X d L fs (x 0))).trans_lt (hX d _)

/-- What the write-out leaves at the task's rows: the table's rows that the task's words name. -/
theorem out_apply (hX : InRange X) (fs : Buf (Elt F) ((V d (cV L) (sV L)).loc cc1_scratch0)) (fr : Buf (Elt F) ((V d (cV L) (sV L)).loc cc1_scratch1))
    (fo : Buf (Elt F) (oLoc d)) (wds : S128.Idx → Elt F .i32) (hw : wds = (iSl L).view.read (Elt F) (X d)) (hn : S128.numel = S128x128.size gathers_S2500x128_S128x128.axis')
    (hin : ∀ x, ((wordsV).view.read (Elt F) (View.write (Elt F) (wordsV).view fs wds Finset.univ) x).toNat < S2500x128.size gathers_S2500x128_S128x128.axis)
    (pay : S128x128.Idx → Elt F .f32)
    (hpay : pay = (rowsV).view.read (Elt F) (View.write (Elt F) (rowsV).view fr
        (SparseCore.gatherPayload gathers_S2500x128_S128x128 ((tAll).view.read (Elt F) (Tb d))
          (SparseCore.rows ((wordsV).view.read (Elt F) (View.write (Elt F) (wordsV).view fs wds Finset.univ)) hn hin)) Finset.univ)) :
    ∀ j ∈ (oSl L).view.set, (oSl L).view.writes (Elt F) fo [⟨Rect.whole S128x128, pay⟩] j = Out X Tb d j := by
  subst hw hpay
  rw [show ∀ pay, (oSl L).view.writes (Elt F) fo [⟨Rect.whole S128x128, pay⟩] = View.write (Elt F) (oSl L).view fo pay Finset.univ from
    fun pay => ((View.write_univ_eq_writes_whole _ _ [] pay).symm.trans (by rw [View.writes_nil]))]
  intro j hj
  obtain ⟨x, -, rfl⟩ := Finset.mem_map.mp hj
  rw [View.write_emb_of_mem _ _ (Finset.mem_univ _), View.read_write_univ, cast_eq]
  unfold SparseCore.gatherPayload Out lookup
  rw [View.read_apply, cast_eq]
  have hx0 : (x 0).val < 128 := (x 0).isLt
  have e0 : ((oSl L).view.emb x 0).val = 256 * (L 1).val + 128 * (L 0).val + (x 0).val := by
    exact (congrArg (fun n => n + 1 * (x 0).val) (congrFun (k1_off2_eq L) 0)).trans (by simp)
  have e1 : ((oSl L).view.emb x 1).val = (x 1).val := by
    exact (congrArg (fun n => n + 1 * (x 1).val) (congrFun (k1_off2_eq L) 1)).trans (by simp)
  congr 1
  funext a
  apply Fin.ext
  match a with
  | 0 =>
    show 0 + 1 * (gathers_S2500x128_S128x128.idx _ x 0).val = (rowOfWord _).val
    rw [Nat.zero_add, Nat.one_mul, rowOfWord_val (hX d _)]
    refine (congrArg Fin.val (Shape.Gathers.idx_axis gathers_S2500x128_S128x128 _ x)).trans ?_
    show BitVec.toNat ((wordsV).view.read (Elt F) _ (S128.rowMajor.symm _)) = _
    refine (congrArg (fun z => BitVec.toNat ((wordsV).view.read (Elt F) (View.write (Elt F) (wordsV).view fs ((iSl L).view.read (Elt F) (X d)) Finset.univ) z))
      (rowMajor_symm_128 _ (x 0) rfl)).trans ?_
    refine (congrArg BitVec.toNat (words_apply X d L fs (x 0))).trans ?_
    exact congrArg (fun n => BitVec.toNat (X d (ix1 n))) (Fin.ext e0.symm)
  | 1 =>
    show 0 + 1 * (gathers_S2500x128_S128x128.idx _ x 1).val = ((oSl L).view.emb x 1).val
    rw [Nat.zero_add, Nat.one_mul, e1]
    exact Shape.Gathers.idx_of_ne gathers_S2500x128_S128x128 _ x 1 (by decide)

end Tile

/-! ## The arrays split among the thirty-two tasks, and join -/

theorem iSet_eq (w : Fin 32) : iSet w = (iPart w).set := by
  show ((View.whole (main_v7_scv : Ref sig .scVector)).slice (iPart w)).set = _
  rw [View.set_slice]; exact Finset.map_refl
theorem oSet_eq (w : Fin 32) : oSet w = (oPart w).set := by
  show ((View.whole (main_v9_scv : Ref sig .scVector)).slice (oPart w)).set = _
  rw [View.set_slice]; exact Finset.map_refl

/-- The thirty-two parts cover the index array, disjointly, and so do they the output. -/
theorem iArr_eq (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun j _ j' _ hjj => by rw [iSet_eq, iSet_eq]; exact Rect.part_disjoint idiv hjj,
    (Finset.biUnion_congr rfl fun w _ => iSet_eq w).trans (Rect.biUnion_part idiv)]; try rfl
theorem oArr_eq (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun j _ j' _ hjj => by rw [oSet_eq, oSet_eq]; exact Rect.part_disjoint odiv hjj,
    (Finset.biUnion_congr rfl fun w _ => oSet_eq w).trans (Rect.biUnion_part odiv)]; try rfl
/-- The tasks counted by core and tile are the thirty-two tasks. -/
theorem tasks_eq (Φ : Fin 32 → sProp 𝕄) :
    (bigSep Finset.univ fun c : Fin ((K (F := F)).nCore 0) => bigSep Finset.univ fun s : Fin ((K (F := F)).nSub 0) => Φ (taskK c s))
      = bigSep Finset.univ Φ := by
  rw [bigSep_univ_comm, bigSep_univ_equiv (finProdFinEquiv (m := 16) (n := 2)) Φ, bigSep_univ_prod]
  exact bigSep_congr fun s _ => bigSep_congr fun c _ => congrArg Φ (Fin.ext (by
    show 2 * s.val + c.val = c.val + 2 * s.val
    omega))

/-- The three arrays, whole, are the tasks' holdings when the call is made, -/
theorem split_arrays (d : Dev nD) (f : Buf (Elt F) (oLoc d)) :
    iprop((iLoc d ↦{fullShare} X d) ∗ (tLoc d ↦{fullShare} Tb d) ∗ (oLoc d ↦{fullShare} f) : sProp 𝕄)
      ⊢ bigSep Finset.univ fun c : Fin ((K (F := F)).nCore 0) => (P X Tb).st 0 d c := by
  refine (show _ ⊢ bigSep Finset.univ (taskIn X Tb d) from ?_).trans (Entails.of_eq (tasks_eq (taskIn X Tb d)).symm)
  rw [bigSep_sep', bigSep_sep', iArr_eq, oArr_eq, pointsTo_piecesOf Finset.univ (Tb d) (o := 32) (by decide) fullShare]
  iintro ⟨Hi, Ht, Ho⟩
  isplitl [Hi]; · iexact Hi
  isplitl [Ht]; · iexact Ht
  iapply (show (bigSep Finset.univ fun w : Fin 32 => oPts d w f) ⊢ (bigSep Finset.univ fun w => iprop(∃ f, oPts d w f) : sProp 𝕄) from
    bigSep_mono fun w _ => show oPts d w f ⊢ (iprop(∃ f, oPts d w f) : sProp 𝕄) by iintro H; iexists f; iexact H)
  iexact Ho

/-- and the tasks' results are the three arrays, whole, the output at the rows that the indices name. -/
theorem join_arrays (d : Dev nD) :
    (bigSep Finset.univ fun c : Fin ((K (F := F)).nCore 0) => (P X Tb).dn 0 d c)
      ⊢ iprop((iLoc d ↦{fullShare} X d) ∗ (tLoc d ↦{fullShare} Tb d) ∗ (oLoc d ↦{fullShare} Out X Tb d) : sProp 𝕄) := by
  refine (Entails.of_eq (tasks_eq (taskOut X Tb d))).trans ?_
  rw [bigSep_sep', bigSep_sep', iArr_eq, oArr_eq, pointsTo_piecesOf Finset.univ (Tb d) (o := 32) (by decide) fullShare]

end Cert.Proof.KernelIdealSc

end
-- ==== Proof.KernelIdealTask.lean ====
/-
  One task of the SparseCore call of `gather` at real-number floats, run through (`task_run`), and the launch's obligations from it.
-/
module

public import proofs.«01_k».proof.Defs
public import proofs.«01_k».proof.Proof.KernelIdealSc
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (X : (d : Dev nD) → Buf (Elt F) (iLoc d)) (Tb : (d : Dev nD) → Buf (Elt F) (tLoc d))
variable (d : Dev nD) (L : grid1.Coords)
variable [FloatOps F]

set_option maxHeartbeats 4000000 in
/-- One task, from its holdings to its result: the words' fetch and its wait, the indirect gather of the rows they name
    and its wait, the rows' write-out and its wait. -/
theorem task_run (hF : (K (F := F)).Facts) (hX : InRange X) (O : CellTallies nD τ sig (HIx 1)) (W : Waits sig (HIx 1)) (hO : ∀ g, O g none = 0) :
    iprop(levAts (K (F := F)).L (K (F := F)).lev ∗ emp
        ∗ taskIn X Tb d (wL L)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc1_gather_kernel L tV (Memref.isWhole_whole _) iV (Memref.isWhole_whole _) oV (Memref.isWhole_whole _)
            wordsV (Memref.isWhole_whole _) rowsV (Memref.isWhole_whole _) cc1_scratch2 cc1_scoped0 cc1_scoped1)
          fun _ => iprop(taskOut X Tb d (wL L)
            ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc1_gather_kernel_eq_skeleton]; unfold cc1_gather_kernel_skel
  rw [(K (F := F)).scopedBufs_V hF d (cV L) (sV L), SparseCore.Cfg.scopedSems0_V (Val := Elt F) d (cV L) (sV L), ownSems0_split, ownBufs_split]
  iintro ⟨#Hlv, -, ⟨Hi, Ht, %fo, Ho⟩, ⟨⟨%fs, Hs⟩, ⟨%fr, Hr⟩, Hbufs⟩, ⟨HsemI, HsemG, HsemO, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Hi' := (Entails.of_eq (pts_iSl (F := F) d L _).symm) $$ Hi
  ihave Ho' := (Entails.of_eq (pts_oSl (F := F) d L _).symm) $$ Ho
  ihave Ht' := (Entails.of_eq (pts_tV (F := F) d L _ _).symm) $$ Ht
  ihave Hs' := (Entails.of_eq (pts_wordsV (F := F) d L _).symm) $$ Hs
  ihave Hr' := (Entails.of_eq (pts_rowsV (F := F) d L _).symm) $$ Hr
  sl_exec
  -- the stream takes the elements of the table that its slice names, the row buffer, and the list's buffer whole
  ihave Hts := (pointsTo_split_subset (q := share (wL L)) (f := Tb d) (S := Finset.univ) (Finset.subset_univ (tAll).view.set)).1 $$ Ht'
  icases Hts with ⟨Hts, Htr⟩
  have hrs : (rowsV).view.set = Finset.univ := View.set_whole _
  have hss : (wordsV).view.set = Finset.univ := View.set_whole _
  ihave Hr'' := (Entails.of_eq (show ((rowsV).view.loc (V d (cV L) (sV L)) ↦{fullShare} fr : sProp 𝕄)
      = (rowsV).view.loc (V d (cV L) (sV L)) ↦[(rowsV).view.set]{fullShare} fr by rw [hrs])) $$ Hr'
  ihave Hs'' := (Entails.of_eq (show ((wordsV).view.loc (V d (cV L) (sV L)) ↦{fullShare} View.write (Elt F) (wordsV).view fs (task_run.sl.dma0 X d L) Finset.univ : sProp 𝕄)
      = (wordsV).view.loc (V d (cV L) (sV L)) ↦[(wordsV).view.set]{fullShare} View.write (Elt F) (wordsV).view fs (task_run.sl.dma0 X d L) Finset.univ
      by rw [hss])) $$ Hs'
  have hN : ∀ h : S2500x128.Gathers 0 S128x128, ∑ j, ((rowsV).slice (S128x128.rowRect h.axis' j) (S128x128.stride_rowRect h.axis' j)).view.dmaCredit
      = (rowsV).view.dmaCredit := by decide
  iapply (SparseCore.wp_indirectGatherLocal countersEmb 𝒱₀ (V d (cV L) (sV L)) none (hg := gathers_S2500x128_S128x128) (default : HIx 1)
      (rowsV).view.dmaCredit (hN _) (by decide) (words_inRange X d L hX fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (sV L)) none (default : HIx 1) (rfl : (rowsV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hs'⟩, HsemG, HO⟩
  ihave Ht' := (pointsTo_split_subset (q := share (wL L)) (f := Tb d) (S := Finset.univ) (Finset.subset_univ (tAll).view.set)).2 $$ [Hts Htr]; · isplitl [Hts] <;> iassumption
  ihave Hr3 := (Entails.of_eq (show ((rowsV).view.loc (V d (cV L) (sV L)) ↦[(rowsV).view.set]{fullShare} _ : sProp 𝕄)
      = (rowsV).view.loc (V d (cV L) (sV L)) ↦{fullShare} _ by rw [hrs])) $$ Hr'
  ihave Hs3 := (Entails.of_eq (show ((wordsV).view.loc (V d (cV L) (sV L)) ↦[(wordsV).view.set]{fullShare} _ : sProp 𝕄)
      = (wordsV).view.loc (V d (cV L) (sV L)) ↦{fullShare} _ by rw [hss])) $$ Hs'
  sl_exec
  sl_step
  isplitl [Hi' Ht' Ho']
  · isplitl [Hi']; · iapply (Entails.of_eq (pts_iSl (F := F) d L _)); iexact Hi'
    isplitl [Ht']; · iexact Ht'
    iapply (Entails.of_eq (pts_oSl (F := F) d L _))
    iapply (Entails.of_eq (pointsTo_congr (out_apply X Tb d L hX fs fr fo (task_run.sl.dma0 X d L) rfl _ _ (task_run.sl.dma0_1 X Tb d L hX fs fr) rfl)))
    iexact Ho'
  isplitl [Hs3 Hr3 Hbufs]
  · isplitl [Hs3]; · iexists _; iexact Hs3
    isplitl [Hr3]; · iexists _; iexact Hr3
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligation -/

/-- The task of tile `s` on core `c`, as a grid point. -/
def coords (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coords c s)
          tV (Memref.isWhole_whole _) iV (Memref.isWhole_whole _) oV (Memref.isWhole_whole _)
          wordsV (Memref.isWhole_whole _) rowsV (Memref.isWhole_whole _) cc1_scratch2 cc1_scoped0 cc1_scoped1) ⟨⟩ c s := rfl

omit [FloatOps F] in
/-- The waits recorded before the call are among those the launch allows. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's body does its task. -/
theorem tileObl (hF : (K (F := F)).Facts) (hX : InRange X) : (K (F := F)).TileObl (D (F := F)) 𝒱 (P X Tb) v₀ 0 := by
  intro d c i O W hO _ _
  simp only [show (P X Tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_run X Tb d (coords ⟨_, hci.1⟩ ⟨_, hci.2⟩) hF hX O W hO).trans (wp_mono frame _ _ fun _ => weaken_waits)

/-- A core's holdings are its tiles' holdings, and its results are theirs. -/
theorem vecSplit : (K (F := F)).VecSplit' (P X Tb) 0 := by
  intro d c
  show (bigSep Finset.univ fun s => taskIn X Tb d (taskK c s)) ⊢ |={Set.univ}=> iprop(
      (bigSep Finset.univ fun s => taskIn X Tb d (taskK c s))
      ∗ ((bigSep Finset.univ fun s => taskOut X Tb d (taskK c s)) -∗ bigSep Finset.univ fun s => taskOut X Tb d (taskK c s)))
  iintro H; imodintro
  isplitl [H]; · iexact H
  iintro H; iexact H

end Cert.Proof.KernelIdealSc

end
-- ==== Proof.KernelIdealBody.lean ====
/-
  The nearest-point call inside the whole kernel at real-number floats: the host operations before it, what its body
  leaves in a point's result block, and its pipeline's proof data while the core still owes the SparseCore call its start
  signals.
-/
module

public import proofs.«01_k».proof.Proof.KernelIdealSc
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.KernelIdealSc

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held seq after)

variable {F : FTy → Type} [FloatOps F]

local notation "𝕄" => MT nD τ sig (HIx 1) (Elt F) ℕ UU ℕ

/-! ## The host's operations before the call -/

/-- The weights and the offsets, transposed, padded and flattened. -/
abbrev opsPre : List (HloOp τ sig (Elt F)) :=
  [ StableHlo.unary main_arg2 main_v0 ((transpose S128x2x2500 [2, 1, 0] · transposes_S2500x2x128_S128x2x2500_2_1_0) : (⟨S2500x2x128, .f32⟩ : BufTy).Contents (Elt F) → (⟨S128x2x2500, .f32⟩ : BufTy).Contents (Elt F)),
    StableHlo.nullary main_c (constantI S_ 32 0#32),
    StableHlo.TRef.unary (.of (T := ⟨S_, .i32⟩) main_c) (.of (T := ⟨S_, .f32⟩) main_call0_v0) (sitofp .f32),
    StableHlo.TRef.binary (.of (T := ⟨S128x2x2500, .f32⟩) main_v0) (.of (T := ⟨S_, .f32⟩) main_call0_v0) (.of (T := ⟨S128x2x2560, .f32⟩) main_v1)
      (fun x v => pad S128x2x2560 ![0, 0, 0] ![0, 0, 60] ![0, 0, 0] x v pads_S128x2x2500_S128x2x2560_000_000_0600 h_S_),
    StableHlo.reshape main_v1 main_v2 (rfl : (.f32 : EltTy) = .f32) shapeCasts_S128x2x2560_S128x5120,
    StableHlo.unary main_arg3 main_v3 ((transpose S2x2500 [1, 0] · transposes_S2500x2_S2x2500_1_0) : (⟨S2500x2, .f32⟩ : BufTy).Contents (Elt F) → (⟨S2x2500, .f32⟩ : BufTy).Contents (Elt F)),
    StableHlo.nullary main_cst (constant S_ .f32 0x5DDE0B6B#32),
    StableHlo.TRef.unary (.of (T := ⟨S_, .f32⟩) main_cst) (.of (T := ⟨S_, .f32⟩) main_call1_v0) id,
    StableHlo.TRef.binary (.of (T := ⟨S2x2500, .f32⟩) main_v3) (.of (T := ⟨S_, .f32⟩) main_call1_v0) (.of (T := ⟨S2x2560, .f32⟩) main_v4)
      (fun x v => pad S2x2560 ![0, 0] ![0, 60] ![0, 0] x v pads_S2x2500_S2x2560_000_0600 h_S_),
    StableHlo.reshape main_v4 main_v5 (rfl : (.f32 : EltTy) = .f32) shapeCasts_S2x2560_S1x5120 ]

theorem opsPre_sub : ∀ op ∈ (opsPre : List (HloOp τ sig (Elt F))), op.bufs ⊆ Pipeline.ucRefs τ sig := fun op h =>
  Pipeline.sub_ucRefs op (List.forall_iff_forall_mem.1 (show (opsPre : List (HloOp τ sig (Elt F))).Forall fun op => op.bufs ⊆ StableHlo.tcRefs τ sig from
    ⟨StableHlo.unary_bufs_sub .., StableHlo.nullary_bufs_sub .., StableHlo.unary_bufs_sub .., StableHlo.binary_bufs_sub .., StableHlo.reshape_bufs_sub ..,
      StableHlo.unary_bufs_sub .., StableHlo.nullary_bufs_sub .., StableHlo.unary_bufs_sub .., StableHlo.binary_bufs_sub .., StableHlo.reshape_bufs_sub ..⟩) op h)
theorem opsPre_fresh : ∀ op ∈ (opsPre : List (HloOp τ sig (Elt F))), op.fresh = ∅ :=
  List.forall_iff_forall_mem.1 ⟨rfl, rfl, rfl, rfl, rfl, rfl, rfl, rfl, rfl, rfl⟩

variable (m : (ℓ : Loc nD τ sig) → Buf (Elt F) ℓ)

/-- The contents of the device's arrays when the nearest-point call is made. -/
abbrev atTc (c : Dev nD) : Valuation τ sig (Elt F) := after opsPre (fun b => m (c, b))

/-- The same by name. -/
abbrev V (c : Dev nD) (b : Ref sig .tc) : Buf (Elt F) ((c : Thread nD τ).loc b) := atTc m c (Proc.devRef .tc b)

/-- No host operation before the call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opsPre, List.Forall, StableHlo.nullary_writes, StableHlo.unary_writes, StableHlo.binary_writes, StableHlo.reshape_writes, Finset.mem_singleton]
    repeat' apply And.intro
    all_goals exact StableHlo.devRef_ne_of_ne (by decide)))
/-- No host operation before the call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opsPre, List.Forall, StableHlo.nullary_writes, StableHlo.unary_writes, StableHlo.binary_writes, StableHlo.reshape_writes, Finset.mem_singleton]
    repeat' apply And.intro
    all_goals exact StableHlo.devRef_ne_of_ne (by decide)))
/-- No host operation before the call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opsPre, List.Forall, StableHlo.nullary_writes, StableHlo.unary_writes, StableHlo.binary_writes, StableHlo.reshape_writes, Finset.mem_singleton]
    repeat' apply And.intro
    all_goals exact StableHlo.devRef_ne_of_ne (by decide)))
/-- No host operation before the call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opsPre, List.Forall, StableHlo.nullary_writes, StableHlo.unary_writes, StableHlo.binary_writes, StableHlo.reshape_writes, Finset.mem_singleton]
    repeat' apply And.intro
    all_goals exact StableHlo.devRef_ne_of_ne (by decide)))
/-- No host operation before the call writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [opsPre, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t` of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, for any proof data whose array is the call's
    and whose body leaves the block in place. -/
theorem before0_0_of {c : Dev nD} (dat : Dat τ (Elt F) (HIx 1) ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the weights. -/
theorem before0_1_of {c : Dev nD} (dat : Dat τ (Elt F) (HIx 1) ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of the offsets. -/
theorem before0_2_of {c : Dev nD} (dat : Dat τ (Elt F) (HIx 1) ℕ UU ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same of the labels. -/
theorem before0_3_of {c : Dev nD} (dat : Dat τ (Elt F) (HIx 1) ℕ UU ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x128 := Rect.unit (s := S256x128) ![0, 0] S256x128.size inb_S256x128_S256x128_0_0
abbrev r0_1 : Rect S128x5120 := Rect.unit (s := S128x5120) ![0, 0] S128x5120.size inb_S128x5120_S128x5120_0_0
abbrev r0_2 : Rect S1x5120 := Rect.unit (s := S1x5120) ![0, 0] S1x5120.size inb_S1x5120_S1x5120_0_0
abbrev r0_3 : Rect S256x2 := Rect.unit (s := S256x2) ![0, 0] S256x1.size inb_S256x2_S256x1_0_0
abbrev r0_4 : Rect S256x2 := Rect.unit (s := S256x2) ![0, 1] S256x1.size inb_S256x2_S256x1_0_1
abbrev r0_5 : Rect S1x1x256 := Rect.unit (s := S1x1x256) ![0, 0, 0] S1x1x256.size inb_S1x1x256_S1x1x256_0_0_0

/-! ## What the body leaves in each output window's buffer -/

/-- What the body leaves in a point's result block: its one store, over the blocks it loads. -/
def out0_4 (x0 : Vec F S256x128 .f32) (x1 : Vec F S128x5120 .f32) (x2 : Vec F S1x5120 .f32) (x3 : Vec F S256x2 .f32) : Vec F S1x1x256 .i32 :=
  View.canon [⟨r0_5, k0_pay1 (View.ld x0 r0_0) (View.ld x1 r0_1) (View.ld x2 r0_2) (View.ld x3 r0_3) (View.ld x3 r0_4)⟩]

/-- That store covers the block. -/
theorem cover0_4 (p0 : Vec F S1x1x256 .i32) (y : S1x1x256.Idx) :
    ∃ pc ∈ ([⟨r0_5, p0⟩] : List (View.Piece (Elt F) S1x1x256 .i32)), y ∈ pc.1.set :=
  View.cover_of_tiled [⟨r0_5, p0⟩] S1x1x256.size (by rfl) y

/-! ## The body's triple -/

set_option maxHeartbeats 1000000 in
/-- The body, run from its input blocks: they stay, and the result block holds `out0_4` of them. -/
theorem sound_kernel (c : Dev nD) (E : Set ℕ) (i : grid0.Coords) (arg1 : Memref sig .tc .vmem S256x128 .f32) (harg1 : arg1.IsWhole) (arg2 : Memref sig .tc .vmem S128x5120 .f32) (harg2 : arg2.IsWhole) (arg3 : Memref sig .tc .vmem S1x5120 .f32) (harg3 : arg3.IsWhole) (arg4 : Memref sig .tc .vmem S256x2 .f32) (harg4 : arg4.IsWhole) (arg5 : Memref sig .tc .vmem S1x1x256 .i32) (harg5 : arg5.IsWhole)
    (x0 : Vec F S256x128 .f32) (x1 : Vec F S128x5120 .f32) (x2 : Vec F S1x5120 .f32) (x3 : Vec F S256x2 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ Q ⟨⟩))
      ⊢ wp frame (wpE (defs₀ (F := F)) Variants.none c none) E (cc0__dist_argmin_body i arg1 harg1 arg2 harg2 arg3 harg3 arg4 harg4 arg5 harg5) Q := by
  simp only [cc0__dist_argmin_body_eq_skeleton]; unfold cc0__dist_argmin_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The pipeline's proof data: arrays as the call finds them, each point's blocks as the body leaves them; throughout,
    the core owes what it owed at the start of the program, and has recorded no wait above level zero. -/
def dats (_ : Fin 1) (c : Dev nD) : Dat τ (Elt F) (HIx 1) ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := iprop(Pipeline.scopedRest spec0 c ∗ ∃ r, prngReg c r)
  q _ := fullShare
  owed _ := (K (F := F)).Otc c 0
  recorded _ := {p | (K (F := F)).lev ((c.tc : Thread nD τ), p.1) p.2 ≤ 0}

/-- Its arrays are those the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- What the body finds in each input window. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body starts from at a point, -/
def bodyPre (c : Dev nD) (t : Fin cfg0.N) : sProp 𝕄 :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin cfg0.N) : sProp 𝕄 :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point, from its blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt none t.succ = (dats m 0 c).owesAt none t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The program's body table at a point is the body on that point's buffers. -/
theorem defs₀_row (t : Fin cfg0.N) :
    defs₀ (F := F) .tc cfg0.body (cfg0.bodyArgs t (cfg0.slots t)) = bodyAt0 t := rfl

/-- The body's obligation at every point. -/
theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

end Cert.Proof.KernelIdealSc

end
-- ==== Proof.KernelIdealRegion.lean ====
/-
  The nearest-point call inside the whole kernel at real-number floats, run: from every array of the device held, the
  core owing the SparseCore call its start signals, to the same with the call's result written.
-/
module

public import proofs.«01_k».proof.Proof.KernelIdealBody
public import Idealize.ShloMosaic.Lib.Pipeline.RegionArrays

@[expose] public section

set_option maxRecDepth 16384

noncomputable section

namespace Cert.Proof.KernelIdealSc

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held seq after)

variable {F : FTy → Type} [FloatOps F]

local notation "𝕄" => MT nD τ sig (HIx 1) (Elt F) ℕ UU ℕ

/-- The pipelines' own ghost state: the middle of the three kept beside each other. -/
abbrev EP : Emb (UR sig nD τ) (MT nD τ sig (HIx 1) (Elt F) ℕ UU ℕ) :=
  (Emb.inl : Emb (UR sig nD τ) (UR sig nD τ × Counters)).trans embR

/-- The pipelines prefetch no tables. -/
abbrev adm (p : Fin 1) : (pcfgs (F := F) p).Adm := (cfgs p).toPCfg_adm

variable (m : (ℓ : Loc nD τ sig) → Buf (Elt F) ℓ)

/-- The call's result, as the device's buffer. -/
abbrev resRef : DevRef τ sig := Proc.devRef .tc main_v6

/-- The contents of the device's arrays after the call. -/
abbrev afterTc (c : Dev nD) : Valuation τ sig (Elt F) :=
  Function.update (atTc m c) resRef ((dats m 0 c).arrAt 4 cfg0.N)

/-- What the TensorCore owes before the SparseCore call, all its recorded waits at level zero. -/
abbrev owing (c : Dev nD) : sProp 𝕄 :=
  iprop(∃ W, ⌜(K (F := F)).WBelow (c.tc : Thread nD τ) W 0⌝ ∗ owes (c.tc : Thread nD τ) ((K (F := F)).Otc c 0) W)

omit [FloatOps F] in
theorem Otc_none (c : Dev nD) (n : ℕ) (g : GSem nD τ sig) : (K (F := F)).Otc c n g (none : HIx 1) = 0 := by
  by_contra h
  have := SparseCore.Cfg.lev_of_Otc_pos (K := K (F := F)) (Nat.pos_of_ne_zero h)
  rw [SparseCore.Cfg.lev_none] at this
  omega

/-- The arrays' final contents are the contents after the call. -/
theorem arrAt_last (c : Dev nD) (w : Fin cfg0.W) :
    (dats m 0 c).arrAt w cfg0.N = afterTc m c (Proc.devRef .tc (Pipeline.arrRef spec0 w)) := by
  have hin : ∀ w : Fin cfg0.W, (cfg0.win w).isOut = false → Pipeline.arrRef spec0 w ≠ main_v6 →
      (dats m 0 c).arrAt w cfg0.N = afterTc m c (Proc.devRef .tc (Pipeline.arrRef spec0 w)) := fun w h hne =>
    ((dats m 0 c).arrAt_in w h _).trans ((A_eq m c w).trans
      (Function.update_of_ne (StableHlo.devRef_ne_of_ne hne) ((dats m 0 c).arrAt 4 cfg0.N) (atTc m c)).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self resRef ((dats m 0 c).arrAt 4 cfg0.N) (atTc m c)).symm

/-- The call's arrays among the device's. -/
abbrev arrs : Finset (DevRef τ sig) := Pipeline.arrRefs spec0

theorem held_arrs (c : Dev nD) (W : Valuation τ sig (Elt F)) :
    (held (c.tc : Thread nD τ) (Pipeline.ucRefs τ sig) W : sProp 𝕄)
      = iprop(held (c.tc : Thread nD τ) arrs W ∗ held (c.tc : Thread nD τ) (Pipeline.ucRefs τ sig \ arrs) W) :=
  StableHlo.held_sub_split _ (Pipeline.arrRefs_sub_ucRefs spec0 winFacts0.arr_unscoped) W

/-- The arrays besides the call's are not written. -/
theorem held_rest (c : Dev nD) :
    (held (c.tc : Thread nD τ) (Pipeline.ucRefs τ sig \ arrs) (afterTc m c) : sProp 𝕄)
      = held (c.tc : Thread nD τ) (Pipeline.ucRefs τ sig \ arrs) (atTc m c) :=
  StableHlo.held_congr (c.tc : Thread nD τ) fun b hb => Function.update_of_ne (fun e : b = resRef => (Finset.mem_sdiff.1 hb).2
    (e.symm ▸ (Finset.mem_map.2 ⟨main_v6, Finset.mem_image.2 ⟨4, Finset.mem_univ _, rfl⟩, rfl⟩ : resRef ∈ arrs))) _ _

theorem entry_arrays (c : Dev nD) :
    ((dats m 0 c).arrays ((dats m 0 c).arrAt · 0) : sProp 𝕄) = held (c.tc : Thread nD τ) arrs (atTc m c) :=
  Pipeline.arrays_held (pcfgs (F := F)) adm (dats m) 0 launch0.toP c ((dats m 0 c).share_full fun _ => rfl) _ _ (A_eq m c)

theorem exit_arrays (c : Dev nD) :
    ((dats m 0 c).arrays ((dats m 0 c).arrAt · cfg0.N) : sProp 𝕄) = held (c.tc : Thread nD τ) arrs (afterTc m c) :=
  Pipeline.arrays_held (pcfgs (F := F)) adm (dats m) 0 launch0.toP c ((dats m 0 c).share_full fun _ => rfl) _ _ (arrAt_last m c)

/-- The body's invariant: the kernel's scratch, of which it has none, and the generator's register. -/
theorem Φ_eq (c : Dev nD) (t : Fin (cfg0.N + 1)) :
    (dats m 0 c).Φ t = iprop(Pipeline.scopedRest spec0 c ∗ ∃ r, prngReg c r) := by
  dsimp only [dats]

/-- The call as a region of the program. -/
def region : Pipeline.RegionSeg (pcfgs (F := F)) adm (dats m) (none : HIx 1) defs₀ Variants.none ((K (F := F)).L) ((K (F := F)).lev) 0 where
  win := launch0.win.to₀
  block_pos := block_pos0
  stage_whole := stage_whole0
  K := PEmpty
  osem k := k.elim
  ho := Pipeline.OwnSemFacts.none _
  hbody c := (body_obligation m c).loose
  hwaits c := Pipeline.cellsWaits_intro _ (dats m) none 0 c fun w s t => (K (F := F)).mayWait_none _ (Otc_none c 0)
  pre c := iprop(held (c.tc : Thread nD τ) (Pipeline.ucRefs τ sig) (atTc m c) ∗ owing c ∗ ∃ r, prngReg c r)
  post c := iprop(held (c.tc : Thread nD τ) (Pipeline.ucRefs τ sig) (afterTc m c) ∗ owing c ∗ ∃ r, prngReg c r)
  X c := iprop(∃ r, prngReg c r)
  Y c := iprop(∃ r, prngReg c r)
  Z c := held (c.tc : Thread nD τ) (Pipeline.ucRefs τ sig \ arrs) (atTc m c)
  hentry c := by
    rw [Pipeline.ownSems0_none, Pipeline.prefHeld_of_none _ rfl, held_arrs]
    iintro ⟨⟨⟨Ha, Hr⟩, ⟨%W, %hW, HO⟩, Hp⟩, -, -⟩
    imodintro
    isplitl [Ha]; · iapply (Entails.of_eq (entry_arrays m c).symm); iexact Ha
    isplitr; · iempintro
    isplitl [HO]
    · iexists W; isplitr; · ipureintro; exact fun p hp => Or.inl (hW p hp)
      iexact HO
    isplitl [Hp]; · iexact Hp
    iexact Hr
  hin c := by
    refine (show _ ⊢ iprop(Pipeline.scopedRest spec0 c ∗ ∃ r, prngReg c r) from ?_).trans (Entails.of_eq (Φ_eq m c 0).symm)
    iintro ⟨Hp, -, Hr⟩
    isplitl [Hr]; · iexact Hr
    iexact Hp
  hout c := by
    refine (Entails.of_eq (Φ_eq m c (Fin.last cfg0.N))).trans ?_
    rw [Pipeline.ownSems0_none]
    iintro ⟨Hr, Hp⟩
    isplitl [Hp]; · iexact Hp
    isplitr; · iempintro
    iexact Hr
  hexit c := by
    rw [held_arrs, held_rest]
    iintro ⟨Ha, ⟨%W, %hW, HO⟩, Hp, Hr⟩
    imodintro
    isplitl [Ha Hr]
    · isplitl [Ha]; · iapply (Entails.of_eq (exit_arrays m c)); iexact Ha
      iexact Hr
    isplitl [HO]
    · iexists W; isplitr
      · ipureintro
        intro p hp
        rcases hW hp with h | ⟨w, s, rfl⟩
        · exact h
        · rw [SparseCore.Cfg.lev_none]
      iexact HO
    iexact Hp

theorem region_pre (c : Dev nD) : (region m).pre c
    = iprop(held (c.tc : Thread nD τ) (Pipeline.ucRefs τ sig) (atTc m c) ∗ owing c ∗ ∃ r, prngReg c r) := rfl
theorem region_post (c : Dev nD) : (region m).post c
    = iprop(held (c.tc : Thread nD τ) (Pipeline.ucRefs τ sig) (afterTc m c) ∗ owing c ∗ ∃ r, prngReg c r) := rfl

/-- The call, run among the program's bodies. -/
theorem tcCall [∀ e, Nonempty (Elt F e)] (c : Dev nD) :
    iprop(boundary (c.tc : Thread nD τ) ∗ (held (c.tc : Thread nD τ) (Pipeline.ucRefs τ sig) (atTc m c) ∗ owing c ∗ ∃ r, prngReg c r)
        ∗ levAts (K (F := F)).L (K (F := F)).lev
        ∗ Pipeline.cellsGhost cfgs EP 0 c ∗ Pipeline.toksInit cfgs EP 0 c)
      ⊢ wp frame (wpE ((K (F := F)).defs (D (F := F))) 𝒱 (c.tc : Thread nD τ) none) Set.univ
          (SparseCore.liftProg (.op (.customCall (Pipeline.entry 0) ()) .ret))
          fun _ => (iprop(boundary (c.tc : Thread nD τ)
            ∗ held (c.tc : Thread nD τ) (Pipeline.ucRefs τ sig) (afterTc m c) ∗ owing c ∗ ∃ r, prngReg c r) : sProp 𝕄) := by
  rw [← region_pre, ← region_post]
  refine (show _ ⊢ wp frame (wpE (D (F := F)) 𝒱 (c.tc : Thread nD τ) none) Set.univ (.op (.customCall (Pipeline.entry 0) ()) .ret)
      fun _ => (iprop(boundary (c.tc : Thread nD τ) ∗ (region m).post c) : sProp 𝕄) from ?_).trans
    ((K (F := F)).wp_liftProg (D (F := F)) 𝒱 (c.tc : Thread nD τ) Set.univ none _ _)
  iintro ⟨Hb, Hpre, Hl, Hg, Ht⟩
  iapply (Pipeline.RegionSeg.wp (pcfgs (F := F)) adm (dats m) none cellOf_inj EP defs₀ Variants.none _ _ (region m) c none
    (fun u hu => nomatch hu) _ _)
  isplitr
  · iintro H
    rw [wp_ret]; imodintro
    iexact H
  isplitl [Hb]; · iexact Hb
  isplitl [Hpre]; · iexact Hpre
  isplitl [Hl]; · iexact Hl
  isplitl [Hg]; · iexact Hg
  iexact Ht

end Cert.Proof.KernelIdealSc

end
-- ==== Proof.KernelIdealRun.lean ====
/-
  The whole kernel at real-number floats, run: the host prepares the weights and the offsets, the TensorCore call finds
  each point's nearest candidate, the host flattens the candidates' words and pads the table, the SparseCore call looks
  the rows up, the host keeps the first two columns. `run_main` states what every execution leaves.
-/
module

public import proofs.«01_k».proof.Defs
public import proofs.«01_k».proof.Proof.KernelIdealTask
public import proofs.«01_k».proof.Proof.KernelIdealRegion
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)

variable {F : FTy → Type} [FloatOps F]

local notation "𝕄" => MT nD τ sig (HIx 1) (Elt F) ℕ UU ℕ

/-! ## The host's operations after the nearest-point call -/

/-- Before the look-up: the words flattened, the padding value and the padded table. -/
abbrev opsMid : List (HloOp τ sig (Elt F)) :=
  [ StableHlo.reshape main_v6 main_v7 (rfl : (.i32 : EltTy) = .i32) shapeCasts_S16x1x256_S4096,
    StableHlo.nullary main_c_0 (constantI S_ 32 0#32),
    StableHlo.TRef.unary (.of (T := ⟨S_, .i32⟩) main_c_0) (.of (T := ⟨S_, .f32⟩) main_call2_v0) (sitofp .f32),
    StableHlo.TRef.binary (.of (T := ⟨S2500x2, .f32⟩) main_arg4) (.of (T := ⟨S_, .f32⟩) main_call2_v0) (.of (T := ⟨S2500x128, .f32⟩) main_v8)
      (fun x v => pad S2500x128 ![0, 0] ![0, 126] ![0, 0] x v pads_S2500x2_S2500x128_000_01260 h_S_) ]

/-- After it: the first two columns. -/
abbrev opsLast : List (HloOp τ sig (Elt F)) :=
  [ StableHlo.unary main_v9 main_v10 ((extractStridedSlice S4096x2 ![0, 0] · slices_S4096x128_S4096x2_0_0) : (⟨S4096x128, .f32⟩ : BufTy).Contents (Elt F) → (⟨S4096x2, .f32⟩ : BufTy).Contents (Elt F)) ]

theorem opsMid_sub : ∀ op ∈ (opsMid : List (HloOp τ sig (Elt F))), op.bufs ⊆ Pipeline.ucRefs τ sig := fun op h =>
  Pipeline.sub_ucRefs op (List.forall_iff_forall_mem.1 (show (opsMid : List (HloOp τ sig (Elt F))).Forall fun op => op.bufs ⊆ StableHlo.tcRefs τ sig from
    ⟨StableHlo.reshape_bufs_sub .., StableHlo.nullary_bufs_sub .., StableHlo.unary_bufs_sub .., StableHlo.binary_bufs_sub ..⟩) op h)
theorem opsMid_fresh : ∀ op ∈ (opsMid : List (HloOp τ sig (Elt F))), op.fresh = ∅ :=
  List.forall_iff_forall_mem.1 ⟨rfl, rfl, rfl, rfl⟩
theorem opsLast_sub : ∀ op ∈ (opsLast : List (HloOp τ sig (Elt F))), op.bufs ⊆ Pipeline.ucRefs τ sig := fun op h =>
  Pipeline.sub_ucRefs op (List.forall_iff_forall_mem.1 (show (opsLast : List (HloOp τ sig (Elt F))).Forall fun op => op.bufs ⊆ StableHlo.tcRefs τ sig from
    StableHlo.unary_bufs_sub ..) op h)
theorem opsLast_fresh : ∀ op ∈ (opsLast : List (HloOp τ sig (Elt F))), op.fresh = ∅ :=
  List.forall_iff_forall_mem.1 (show (opsLast : List (HloOp τ sig (Elt F))).Forall fun op => op.fresh = ∅ from rfl)
/-- The last operation writes its result only, which it takes from the look-up's output. -/
theorem opsLast_ne (W : Valuation τ sig (Elt F)) {r : Ref sig .tc} (h : r ≠ main_v10) : after opsLast W (Proc.devRef .tc r) = W (Proc.devRef .tc r) := by
  rw [StableHlo.after_cons, StableHlo.after_nil]
  exact StableHlo.unary_result_ne _ _ _ _ _ _ h
theorem opsLast_result (W : Valuation τ sig (Elt F)) :
    after opsLast W (Proc.devRef .tc main_v10) = extractStridedSlice S4096x2 ![0, 0] (W (Proc.devRef .tc main_v9)) slices_S4096x128_S4096x2_0_0 := by
  rw [StableHlo.after_cons, StableHlo.after_nil]
  exact StableHlo.unary_result main_v9 main_v10 _ _ _ W

theorem main_eq (d : Dev nD) :
    main (F := F) d = (seq opsPre >>= fun _ => SparseCore.liftProg (.op (.customCall (Pipeline.entry 0) ()) .ret) >>= fun _ => seq opsMid >>= fun _ =>
      sc.run d 0 >>= fun _ => seq opsLast >>= fun _ => pure ⟨⟩) := rfl

variable (m : (ℓ : Loc nD τ sig) → Buf (Elt F) ℓ) (ρ : Dev nD → PrngReg)

/-- The three arrays of the look-up, as the device's buffers. -/
abbrev iRef : DevRef τ sig := Proc.devRef .tc main_v7
abbrev tRef : DevRef τ sig := Proc.devRef .tc main_v8
abbrev oRef : DevRef τ sig := Proc.devRef .tc main_v9

/-- The contents of the device's arrays when the look-up is made, -/
abbrev atCall (d : Dev nD) : Valuation τ sig (Elt F) := after opsMid (afterTc m d)
/-- the indices and the table among them, -/
abbrev X₀ (d : Dev nD) : Buf (Elt F) (iLoc d) := atCall m d iRef
abbrev Tb₀ (d : Dev nD) : Buf (Elt F) (tLoc d) := atCall m d tRef
/-- and the contents when the program ends. -/
abbrev atEnd (d : Dev nD) : Valuation τ sig (Elt F) := after opsLast (Function.update (atCall m d) oRef (Out (X₀ m) (Tb₀ m) d))

/-! ## @main -/

/-- The TensorCore's unscoped arrays are the call's three and the rest. -/
theorem held_call (d : Dev nD) (W : Valuation τ sig (Elt F)) :
    (held (SparseCore.T d) (Pipeline.ucRefs τ sig) W : sProp 𝕄)
      = iprop((iLoc d ↦{fullShare} W iRef) ∗ (tLoc d ↦{fullShare} W tRef) ∗ (oLoc d ↦{fullShare} W oRef)
          ∗ held (SparseCore.T d) ((((Pipeline.ucRefs τ sig).erase iRef).erase tRef).erase oRef) W) := by
  unfold held
  rw [SparseCore.bigSep_erase' (show iRef ∈ Pipeline.ucRefs τ sig by decide),
    SparseCore.bigSep_erase' (show tRef ∈ (Pipeline.ucRefs τ sig).erase iRef by decide),
    SparseCore.bigSep_erase' (show oRef ∈ ((Pipeline.ucRefs τ sig).erase iRef).erase tRef by decide)]

/-- Holding them after the call: the output at the call's result, the others as they were. -/
theorem held_after (d : Dev nD) (W : Valuation τ sig (Elt F)) (f : Buf (Elt F) (oLoc d)) :
    (held (SparseCore.T d) (Pipeline.ucRefs τ sig) (Function.update W oRef f) : sProp 𝕄)
      = iprop((iLoc d ↦{fullShare} W iRef) ∗ (tLoc d ↦{fullShare} W tRef) ∗ (oLoc d ↦{fullShare} f)
          ∗ held (SparseCore.T d) ((((Pipeline.ucRefs τ sig).erase iRef).erase tRef).erase oRef) W) := by
  rw [held_call, Function.update_self, Function.update_of_ne (show iRef ≠ oRef by decide), Function.update_of_ne (show tRef ≠ oRef by decide),
    StableHlo.held_congr (SparseCore.T d) (V := Function.update W oRef f) (V' := W) fun b hb => Function.update_of_ne (Finset.ne_of_mem_erase hb) _ _]

abbrev FIN (d : Dev nD) : sProp 𝕄 := held (SparseCore.T d) (Pipeline.ucRefs τ sig) (atEnd m d)

/-- The TensorCore's state before the look-up is what it owes and the rest. -/
theorem tcSt_open (d : Dev nD) :
    ((K (F := F)).tcSt EH d 0 : sProp 𝕄) ⊢ iprop(owing d ∗ (owing d -∗ (K (F := F)).tcSt EH d 0)) := by
  unfold SparseCore.Cfg.tcSt
  iintro ⟨HO, Hr⟩
  isplitl [HO]; · iexact HO
  iintro HO
  isplitl [HO]; · iexact HO
  iexact Hr

/-- The pipeline's ghost state on a device. -/
abbrev pipeGhost (d : Dev nD) : sProp 𝕄 := iprop(Pipeline.cellsGhost cfgs EP 0 d ∗ Pipeline.toksInit cfgs EP 0 d)

/-- @main on device `d`'s TensorCore, from every array as launched to every array at `atEnd`. -/
theorem hmain [∀ e, Nonempty (Elt F e)] (κ : GSem nD τ sig → ℕ) (d : Dev nD) :
    iprop((K (F := F)).ctx EH (P (X₀ m) (Tb₀ m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (fun b => m (d, b)) from
    Pipeline.unscopedBufs_held d (fun b => m (d, b))]
  iintro ⟨#Hctx, Hst, ⟨Hb, Hheld, Hts, Hp⟩, Hg, Ht⟩
  iapply (StableHlo.wp_seq 𝒱 none Set.univ d (Pipeline.ucRefs τ sig) _ opsPre opsPre_sub opsPre_fresh (fun b => m (d, b))) $$ [Hb Hheld]
  · isplitl [Hb] <;> iassumption
  iintro ⟨Hb, Hheld⟩
  ihave Hs := (tcSt_open (F := F) d) $$ Hst
  icases Hs with ⟨HO, Hst⟩
  rw [wp_bind]
  iapply (wp_wand_r frame _ Set.univ)
  isplitl [Hb Hheld HO Hp Hg Ht]
  · iapply (tcCall m d)
    isplitl [Hb]; · iexact Hb
    isplitl [Hheld HO Hp]
    · isplitl [Hheld]; · iexact Hheld
      isplitl [HO]; · iexact HO
      iexists _; iexact Hp
    isplitr; · iapply (SparseCore.Cfg.ctx_levAts κ); iexact Hctx
    isplitl [Hg]; · iexact Hg
    iexact Ht
  iintro %_ ⟨Hb, Hheld, HO, -⟩
  ihave Hst := Hst $$ HO
  iapply (StableHlo.wp_seq 𝒱 none Set.univ d (Pipeline.ucRefs τ sig) _ opsMid opsMid_sub opsMid_fresh (afterTc m d)) $$ [Hb Hheld]
  · isplitl [Hb] <;> iassumption
  iintro ⟨Hb, Hheld⟩
  ihave Hh := (Entails.of_eq (held_call (F := F) d _)) $$ Hheld
  icases Hh with ⟨Hi, Ht, Ho, Hrest⟩
  rw [wp_bind]
  iapply ((K (F := F)).wp_run (D (F := F)) 𝒱 (EH := EH) (P := P (X₀ m) (Tb₀ m)) κ d 0) $$ [Hst Hi Ht Ho Hb Hrest Hts]
  isplitr; · iexact Hctx
  isplitl [Hst]; · iexact Hst
  isplitl [Hi Ht Ho]
  · iapply (split_arrays (X₀ m) (Tb₀ m) d (atCall m d oRef))
    isplitl [Hi]; · iexact Hi
    isplitl [Ht]; · iexact Ht
    iexact Ho
  iintro ⟨Hst, Hdn⟩
  ihave Hdn' := (join_arrays (X₀ m) (Tb₀ m) d) $$ Hdn
  icases Hdn' with ⟨Hi, Ht, Ho⟩
  iapply (StableHlo.wp_seq 𝒱 none Set.univ d (Pipeline.ucRefs τ sig) _ opsLast opsLast_sub opsLast_fresh
    (Function.update (atCall m d) oRef (Out (X₀ m) (Tb₀ m) d))) $$ [Hb Hi Ht Ho Hrest]
  · isplitl [Hb]; · iexact Hb
    iapply (Entails.of_eq (held_after (F := F) d (atCall m d) _).symm)
    isplitl [Hi]; · iexact Hi
    isplitl [Ht]; · iexact Ht
    isplitl [Ho]; · iexact Ho
    iexact Hrest
  iintro ⟨Hb, Hheld⟩
  rw [wp_pure]; imodintro
  isplitl [Hst]; · iexact Hst
  isplitl [Hheld]; · iexact Hheld
  isplitl [Hb] <;> iassumption

/-- What a final state of device `d` holds: every array at `atEnd`. -/
def fq (d : Dev nD) (s' : Phys nD τ sig (Elt F)) : Prop := ∀ b ∈ Pipeline.ucRefs τ sig, s'.mem.mem (d, b) = atEnd m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The launch's ghost state, and the run -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks,
  (initOf (Pipeline.cells cfgs cellOf_inj) (Pipeline.launchToks cfgs cellOf_inj), 1))

omit [FloatOps F] in
/-- The pipeline's part of the launch's ghost state, device by device. -/
theorem fund_pipe :
    (BI.own (EP (F := F) (initOf (Pipeline.cells cfgs cellOf_inj) (Pipeline.launchToks cfgs cellOf_inj))) : sProp 𝕄)
      ⊢ |==> bigSep Finset.univ fun d : Dev nD => pipeGhost (F := F) d := by
  refine (Pipeline.fund_ghost cfgs (EP (F := F)) cellOf_inj).trans ?_
  iintro H
  imod H with ⟨Hg, Ht⟩
  imodintro
  rw [bigSep_sep']
  isplitl [Hg]
  · iapply (Entails.of_eq (show (bigSep Finset.univ fun d : Dev nD => bigSep Finset.univ fun p : Fin 1 => Pipeline.cellsGhost cfgs (EP (F := F)) p d)
      = (bigSep Finset.univ fun d : Dev nD => Pipeline.cellsGhost cfgs (EP (F := F)) 0 d : sProp 𝕄) from
      bigSep_congr fun d _ => bigSep_univ_of_subsingleton (0 : Fin 1))); iexact Hg
  · iapply (Entails.of_eq (show (bigSep Finset.univ fun d : Dev nD => bigSep Finset.univ fun p : Fin 1 => Pipeline.toksInit cfgs (EP (F := F)) p d)
      = (bigSep Finset.univ fun d : Dev nD => Pipeline.toksInit cfgs (EP (F := F)) 0 d : sProp 𝕄) from
      bigSep_congr fun d _ => bigSep_univ_of_subsingleton (0 : Fin 1))); iexact Ht

omit [FloatOps F] in
theorem hu₀ (X : (d : Dev nD) → Buf (Elt F) (iLoc d)) (Tb : (d : Dev nD) → Buf (Elt F) (tLoc d)) : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P X Tb).x q thr) := by
  unfold u₀
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HR⟩
  ihave HR' := (own_pair_emb (embR : Emb (UR sig nD τ × Counters) (MT nD τ sig (HIx 1) (Elt F) ℕ UU ℕ)) _ _) $$ HR
  icases HR' with ⟨HP, -⟩
  imod (fund_pipe (F := F)) $$ HP with HP
  imodintro
  isplitl [HH]; · iexact HH
  isplitl [HP]; · iexact HP
  rw [show (bigSep Finset.univ fun thr : Thread nD τ => bigSep Finset.univ fun q : Fin 1 => (P (F := F) X Tb).x q thr) = bigSep Finset.univ fun _ => iprop(emp) from
    bigSep_congr fun _ _ => bigSep_univ_of_subsingleton (0 : Fin 1), bigSep_emp']
  iempintro

/-- The words of the look-up are the nearest-point call's, flattened. -/
theorem atCall_words (d : Dev nD) : atCall m d iRef = shapeCast S4096 ((dats m 0 d).arrAt 4 cfg0.N) shapeCasts_S16x1x256_S4096 := by
  refine Eq.trans ?_ (congrArg (fun v => shapeCast S4096 v shapeCasts_S16x1x256_S4096) (Function.update_self resRef ((dats m 0 d).arrAt 4 cfg0.N) (atTc m d)))
  generalize afterTc m d = W
  simp only [atCall, opsMid, StableHlo.TRef.binary, StableHlo.TRef.unary, StableHlo.TRef.toBuf, StableHlo.TRef.ofBuf, cast_eq]
  after_results <;> rfl

/-- Neither the look-up's preparation nor the nearest-point call writes an argument. -/
theorem atCall_arg (d : Dev nD) {r : Ref sig .tc} (h6 : r ≠ main_v6) (h7 : r ≠ main_v7) (hc : r ≠ main_c_0) (hv : r ≠ main_call2_v0) (h8 : r ≠ main_v8) :
    atCall m d (Proc.devRef .tc r) = V m d r := by
  refine (StableHlo.after_of_forall_not_mem (b := Proc.devRef .tc r) _ _ (List.forall_iff_forall_mem.mp ?_)).trans
    (Function.update_of_ne (StableHlo.devRef_ne_of_ne h6) _ _)
  simp only [opsMid, List.Forall, StableHlo.nullary_writes, StableHlo.unary_writes, StableHlo.binary_writes, StableHlo.reshape_writes, Finset.mem_singleton]
  exact ⟨StableHlo.devRef_ne_of_ne h7, StableHlo.devRef_ne_of_ne hc, StableHlo.devRef_ne_of_ne hv, StableHlo.devRef_ne_of_ne h8⟩

/-- Nor do the look-up and the last operation. -/
theorem atEnd_arg (d : Dev nD) {r : Ref sig .tc} (h6 : r ≠ main_v6) (h7 : r ≠ main_v7) (hc : r ≠ main_c_0) (hv : r ≠ main_call2_v0) (h8 : r ≠ main_v8)
    (h9 : r ≠ main_v9) (h10 : r ≠ main_v10) : atEnd m d (Proc.devRef .tc r) = V m d r :=
  (opsLast_ne _ h10).trans ((Function.update_of_ne (StableHlo.devRef_ne_of_ne h9) _ _).trans (atCall_arg m d h6 h7 hc hv h8))

theorem atCall_table (d : Dev nD) :
    atCall m d tRef = pad S2500x128 ![0, 0] ![0, 126] ![0, 0] (m ((SparseCore.T d).loc main_arg4)) (sitofp .f32 (constantI S_ 32 0#32)) pads_S2500x2_S2500x128_000_01260 h_S_ := by
  refine Eq.trans ?_ (congrArg (fun v => pad S2500x128 ![0, 0] ![0, 126] ![0, 0] v (sitofp .f32 (constantI S_ 32 0#32)) pads_S2500x2_S2500x128_000_01260 h_S_)
    ((Function.update_of_ne (show Proc.devRef .tc main_arg4 ≠ resRef by decide) ((dats m 0 d).arrAt 4 cfg0.N) (atTc m d)).trans (V_main_arg4 m d)))
  generalize afterTc m d = W
  simp only [atCall, opsMid, StableHlo.TRef.binary, StableHlo.TRef.unary, StableHlo.TRef.toBuf, StableHlo.TRef.ofBuf, cast_eq]
  after_results <;> rfl

/-- The result: the first two columns of the padded table's rows, looked up at the nearest-point call's words. -/
def Res (d : Dev nD) : (⟨S4096x2, .f32⟩ : BufTy).Contents (Elt F) :=
  extractStridedSlice S4096x2 ![0, 0]
    (lookup (shapeCast S4096 ((dats m 0 d).arrAt 4 cfg0.N) shapeCasts_S16x1x256_S4096)
      (pad S2500x128 ![0, 0] ![0, 126] ![0, 0] (m ((SparseCore.T d).loc main_arg4)) (sitofp .f32 (constantI S_ 32 0#32)) pads_S2500x2_S2500x128_000_01260 h_S_))
    slices_S4096x128_S4096x2_0_0

theorem atEnd_result (d : Dev nD) : atEnd m d (Proc.devRef .tc main_v10) = Res m d := by
  refine (opsLast_result _).trans ?_
  rw [Function.update_self]
  unfold Out Res
  rw [show X₀ m d = _ from atCall_words m d, show Tb₀ m d = _ from atCall_table m d]

/-- Every word of the nearest-point call names a row of the table. -/
def IdxOK : Prop := ∀ (d : Dev nD) (j : S4096.Idx),
  (show BitVec 32 from shapeCast S4096 ((dats m 0 d).arrAt 4 cfg0.N) shapeCasts_S16x1x256_S4096 j).toNat < 2500

/-- What the claims read of a final state. -/
def QC : PUnit × MemSt nD τ sig (Elt F) → Prop := fun r =>
  (∀ c : Dev nD, r.2.mem ((SparseCore.T c).loc main_v10) = Res m c ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2)
    ∧ r.2.mem ((SparseCore.T c).loc main_arg3) = m ((SparseCore.T c).loc main_arg3) ∧ r.2.mem ((SparseCore.T c).loc main_arg4) = m ((SparseCore.T c).loc main_arg4))
    ∧ r.2.sem = fun _ => 0

/-- Every execution whose nearest-point call's words are in range ends with the result at `Res`, the arguments unchanged,
    every counter at zero. -/
theorem run_main [∀ e, Nonempty (Elt F e)] (hpre : IdxOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X₀ m) (Tb₀ m)) (A := ∅) launchFacts v₀
    (fun q hq => match q with | 0 => nomatch hq)
    (fun q _ => match q with | 0 => tileObl (X₀ m) (Tb₀ m) launchFacts (fun d j => by
      show (show BitVec 32 from atCall m d iRef j).toNat < 2500
      rw [atCall_words]; exact hpre d j))
    (fun q _ => match q with | 0 => SparseCore.Cfg.VecSplit.of_plain (vecSplit (X₀ m) (Tb₀ m)))
    m ρ main (fun d => pipeGhost d) (FIN m) (u₀ (F := F)) (sep_elim_left.trans (hu₀ (X₀ m) (Tb₀ m))) (hmain m ρ) (fq m) (hfin m) (QC m)
    (fun _ h hz => ⟨fun c => ⟨(h c (Proc.devRef .tc main_v10) (by decide)).trans (atEnd_result m c),
      (h c (Proc.devRef .tc main_arg0) (by decide)).trans ((atEnd_arg m c (by decide) (by decide) (by decide) (by decide) (by decide) (by decide) (by decide)).trans (V_main_arg0 m c)),
      (h c (Proc.devRef .tc main_arg1) (by decide)).trans ((atEnd_arg m c (by decide) (by decide) (by decide) (by decide) (by decide) (by decide) (by decide)).trans (V_main_arg1 m c)),
      (h c (Proc.devRef .tc main_arg2) (by decide)).trans ((atEnd_arg m c (by decide) (by decide) (by decide) (by decide) (by decide) (by decide) (by decide)).trans (V_main_arg2 m c)),
      (h c (Proc.devRef .tc main_arg3) (by decide)).trans ((atEnd_arg m c (by decide) (by decide) (by decide) (by decide) (by decide) (by decide) (by decide)).trans (V_main_arg3 m c)),
      (h c (Proc.devRef .tc main_arg4) (by decide)).trans ((atEnd_arg m c (by decide) (by decide) (by decide) (by decide) (by decide) (by decide) (by decide)).trans (V_main_arg4 m c))⟩, hz⟩)

end Cert.Proof.KernelIdealSc

end
-- ==== Proof.KernelRef.lean ====
/-
  The reference of the whole kernel at extended reals: what every execution of it ends with.
-/
module

public import proofs.«01_k».proof.Proof.Gen.ReferenceIdeal
public import proofs.«01_k».proof.Proof.BlockWords
public import proofs.«01_k».proof.Proof.Take
public import Idealize.ShloMosaic.Lib.StableHlo.Run
public import Idealize.ShloMosaic.Lib.Pipeline.Frame

@[expose] public section

set_option maxRecDepth 16384

noncomputable section

namespace Cert.Proof.KernelRef

open Cert.ReferenceIdeal Cert.ReferenceIdeal.Gen Idealize.ShloMosaic Idealize.ShloMosaic.TcCoe Idealize.SL.Sem Idealize.ShloMosaic.StableHlo

variable {F : FTy → Type} [FloatOps F]

/-- The operations that search for the nearest candidates. -/
abbrev searchOps : List (HloOp τ sig (Elt F)) :=
  [ binary main_arg1 main_arg2 main_v0 ((fun l r => Host.dotGeneral dot_S4096x128_S2500x2x128_S4096x2500x2_1_2_0_01_n_n none l r) : (⟨S4096x128, .f32⟩ : BufTy).Contents (Elt F) → (⟨S2500x2x128, .f32⟩ : BufTy).Contents (Elt F) → (⟨S4096x2500x2, .f32⟩ : BufTy).Contents (Elt F)),
    unary main_arg3 main_v1 (broadcastInDim S1x2500x2 ![1, 2] bcast_S2500x2_S1x2500x2_1_2 : (⟨S2500x2, .f32⟩ : BufTy).Contents (Elt F) → (⟨S1x2500x2, .f32⟩ : BufTy).Contents (Elt F)),
    unary main_v1 main_v2 (broadcastInDim S4096x2500x2 ![0, 1, 2] bcast_S1x2500x2_S4096x2500x2_0_1_2 : (⟨S1x2500x2, .f32⟩ : BufTy).Contents (Elt F) → (⟨S4096x2500x2, .f32⟩ : BufTy).Contents (Elt F)),
    binary main_v0 main_v2 main_v3 (addf : (⟨S4096x2500x2, .f32⟩ : BufTy).Contents (Elt F) → (⟨S4096x2500x2, .f32⟩ : BufTy).Contents (Elt F) → (⟨S4096x2500x2, .f32⟩ : BufTy).Contents (Elt F)),
    unary main_arg0 main_v4 (broadcastInDim S4096x1x2 ![0, 2] bcast_S4096x2_S4096x1x2_0_2 : (⟨S4096x2, .f32⟩ : BufTy).Contents (Elt F) → (⟨S4096x1x2, .f32⟩ : BufTy).Contents (Elt F)),
    unary main_v4 main_v5 (broadcastInDim S4096x2500x2 ![0, 1, 2] bcast_S4096x1x2_S4096x2500x2_0_1_2 : (⟨S4096x1x2, .f32⟩ : BufTy).Contents (Elt F) → (⟨S4096x2500x2, .f32⟩ : BufTy).Contents (Elt F)),
    binary main_v3 main_v5 main_v6 (subf : (⟨S4096x2500x2, .f32⟩ : BufTy).Contents (Elt F) → (⟨S4096x2500x2, .f32⟩ : BufTy).Contents (Elt F) → (⟨S4096x2500x2, .f32⟩ : BufTy).Contents (Elt F)),
    TRef.binary (TRef.of (T := ⟨S4096x2500x2, .f32⟩) main_v6) (TRef.of (T := ⟨S4096x2500x2, .f32⟩) main_v6) (TRef.of (T := ⟨S4096x2500x2, .f32⟩) main_call0_v0) mulf,
    TRef.nullary (TRef.of (T := ⟨S_, .f32⟩) main_call0_cst) (constant S_ .f32 0x00000000#32),
    TRef.binary (TRef.of (T := ⟨S4096x2500x2, .f32⟩) main_call0_v0) (TRef.of (T := ⟨S_, .f32⟩) main_call0_cst) (TRef.of (T := ⟨S4096x2500, .f32⟩) main_call0_v1) (fun x v => Host.reduceAdd x v reducesTo_S4096x2500x2_S4096x2500_d2 h_S_),
    TRef.unary (TRef.of (T := ⟨S4096x2500, .f32⟩) main_call0_v1) (TRef.of (T := ⟨S4096x2500, .f32⟩) main_v7) Host.sqrt,
    TRef.nullary (TRef.of (T := ⟨S4096x2500, .i32⟩) main_call1_v0) (iotaInDim S4096x2500 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S4096x2500, .f32⟩) main_v7) (TRef.of (T := ⟨S4096x2500, .i32⟩) main_call1_v0) (TRef.of (T := ⟨S_, .f32⟩) main_call1_cst) (TRef.of (T := ⟨S_, .i32⟩) main_call1_c) (TRef.of (T := ⟨S4096, .f32⟩) main_call1_v1_0) (fun x y u v j => (Host.argReduce reducer_argmin_f32_i32 x y u v reducesTo_S4096x2500_S4096_d1 h_S_ j).1),
    TRef.quaternary (TRef.of (T := ⟨S4096x2500, .f32⟩) main_v7) (TRef.of (T := ⟨S4096x2500, .i32⟩) main_call1_v0) (TRef.of (T := ⟨S_, .f32⟩) main_call1_cst) (TRef.of (T := ⟨S_, .i32⟩) main_call1_c) (TRef.of (T := ⟨S4096, .i32⟩) main_v8) (fun x y u v j => (Host.argReduce reducer_argmin_f32_i32 x y u v reducesTo_S4096x2500_S4096_d1 h_S_ j).2) ]

/-- The read of the grid at the words. -/
abbrev lastOps : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S4096, .i32⟩) main_call2_v0) (broadcastInDim S4096 ![] bcast_S_S4096),
    TRef.binary (TRef.of (T := ⟨S4096, .i32⟩) main_v8) (TRef.of (T := ⟨S4096, .i32⟩) main_call2_v0) (TRef.of (T := ⟨S4096, .i1⟩) main_call2_v1) (cmpi .slt),
    TRef.nullary (TRef.of (T := ⟨S_, .i32⟩) main_call2_c_0) (constantI S_ 32 2500#32),
    TRef.unary (TRef.of (T := ⟨S_, .i32⟩) main_call2_c_0) (TRef.of (T := ⟨S4096, .i32⟩) main_call2_v2) (broadcastInDim S4096 ![] bcast_S_S4096),
    TRef.binary (TRef.of (T := ⟨S4096, .i32⟩) main_v8) (TRef.of (T := ⟨S4096, .i32⟩) main_call2_v2) (TRef.of (T := ⟨S4096, .i32⟩) main_call2_v3) addi,
    TRef.ternary (TRef.of (T := ⟨S4096, .i1⟩) main_call2_v1) (TRef.of (T := ⟨S4096, .i32⟩) main_call2_v3) (TRef.of (T := ⟨S4096, .i32⟩) main_v8) (TRef.of (T := ⟨S4096, .i32⟩) main_call2_v4) select,
    TRef.unary (TRef.of (T := ⟨S4096, .i32⟩) main_call2_v4) (TRef.of (T := ⟨S4096x1, .i32⟩) main_call2_v5) (broadcastInDim S4096x1 ![0] bcast_S4096_S4096x1_0),
    TRef.nullary (TRef.of (T := ⟨S1, .i32⟩) main_call2_c_1) (constantI S1 32 2499#32),
    TRef.nullary (TRef.of (T := ⟨S_, .i32⟩) main_call2_c_2) (constantI S_ 32 0#32),
    TRef.unary (TRef.of (T := ⟨S_, .i32⟩) main_call2_c_2) (TRef.of (T := ⟨S4096x1, .i32⟩) main_call2_v6) (broadcastInDim S4096x1 ![] bcast_S_S4096x1),
    TRef.binary (TRef.of (T := ⟨S4096x1, .i32⟩) main_call2_v5) (TRef.of (T := ⟨S4096x1, .i32⟩) main_call2_v6) (TRef.of (T := ⟨S4096x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S4096x1, .i32⟩) main_call2_v9) (broadcastInDim S4096x1 ![0, 1] bcast_S1x1_S4096x1_0_1),
    TRef.binary (TRef.of (T := ⟨S4096x1, .i32⟩) main_call2_v5) (TRef.of (T := ⟨S4096x1, .i32⟩) main_call2_v9) (TRef.of (T := ⟨S4096x1, .i1⟩) main_call2_v10) (cmpi .sle),
    TRef.binary (TRef.of (T := ⟨S4096x1, .i1⟩) main_call2_v7) (TRef.of (T := ⟨S4096x1, .i1⟩) main_call2_v10) (TRef.of (T := ⟨S4096x1, .i1⟩) main_call2_v11) andi,
    TRef.nullary (TRef.of (T := ⟨S_, .i1⟩) main_call2_c_3) (constantI S_ 1 1#1),
    TRef.binary (TRef.of (T := ⟨S4096x1, .i1⟩) main_call2_v11) (TRef.of (T := ⟨S_, .i1⟩) main_call2_c_3) (TRef.of (T := ⟨S4096, .i1⟩) main_call2_v12) (fun x v => Host.reduce IntOp.andi x v reducesTo_S4096x1_S4096_d1 h_S_),
    TRef.binary (TRef.of (T := ⟨S2500x2, .f32⟩) main_arg4) (TRef.of (T := ⟨S4096x1, .i32⟩) main_call2_v5) (TRef.of (T := ⟨S4096x2, .f32⟩) main_call2_v13) (fun x i => Host.gather gather_S2500x2_S4096x1_S4096x2_1_0_n_n_0_1_12 x i),
    TRef.unary (TRef.of (T := ⟨S4096, .i1⟩) main_call2_v12) (TRef.of (T := ⟨S4096x2, .i1⟩) main_call2_v14) (broadcastInDim S4096x2 ![0] bcast_S4096_S4096x2_0),
    TRef.nullary (TRef.of (T := ⟨S_, .f32⟩) main_call2_cst) (constant S_ .f32 0x7FC00000#32),
    TRef.unary (TRef.of (T := ⟨S_, .f32⟩) main_call2_cst) (TRef.of (T := ⟨S4096x2, .f32⟩) main_call2_v15) (broadcastInDim S4096x2 ![] bcast_S_S4096x2),
    TRef.ternary (TRef.of (T := ⟨S4096x2, .i1⟩) main_call2_v14) (TRef.of (T := ⟨S4096x2, .f32⟩) main_call2_v13) (TRef.of (T := ⟨S4096x2, .f32⟩) main_call2_v15) (TRef.of (T := ⟨S4096x2, .f32⟩) main_v9) select ]

theorem main_eq (c : Dev nD) : main (F := F) c = seq (searchOps ++ lastOps) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (searchOps ++ lastOps : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

variable (V : ∀ b : DevRef τ sig, b.ty.Contents (Elt Ideal))

/-- The search leaves the words of the nearest candidates. -/
theorem search_after : after (searchOps (F := Ideal)) V (Proc.devRef .tc main_v8)
    = nearestWords (V (Proc.devRef .tc main_arg0)) (V (Proc.devRef .tc main_arg1)) (V (Proc.devRef .tc main_arg2)) (V (Proc.devRef .tc main_arg3)) := by
  refine Eq.trans ?_ (refSearch_eq (reducer_argmin_f32_i32 (F := Ideal)) step_eq dot_S4096x128_S2500x2x128_S4096x2500x2_1_2_0_01_n_n_wf
    bcast_S2500x2_S1x2500x2_1_2 bcast_S1x2500x2_S4096x2500x2_0_1_2 bcast_S4096x2_S4096x1x2_0_2 bcast_S4096x1x2_S4096x2500x2_0_1_2
    reducesTo_S4096x2500x2_S4096x2500_d2 h_S_ reducesTo_S4096x2500_S4096_d1 _ _ _ _)
  simp only [searchOps, lastOps, TRef.binary, TRef.nullary, TRef.ternary, TRef.quaternary, TRef.unary, TRef.toBuf, TRef.ofBuf, cast_eq]
  after_results <;> rfl

/-- The read of the grid at words in range. -/
theorem last_after (hV : ∀ j, (V (Proc.devRef .tc main_v8) j : BitVec 32).toNat < 2500) :
    after (lastOps (F := Ideal)) V (Proc.devRef .tc main_v9) = rows (V (Proc.devRef .tc main_v8)) (V (Proc.devRef .tc main_arg4)) := by
  refine Eq.trans ?_ (take_eq _ hV _ (broadcastInDim S4096x2 ![] bcast_S_S4096x2 (constant (F := Ideal) S_ .f32 0x7FC00000#32)) bcast_S_S4096 bcast_S4096_S4096x1_0
    bcast_S4096_S4096x2_0 bcast_S_S4096x1 bcast_S1_S1x1_1 bcast_S1x1_S4096x1_0_1 reducesTo_S4096x1_S4096_d1 h_S_
    gather_S2500x2_S4096x1_S4096x2_1_0_n_n_0_1_12 rfl rfl rfl rfl rfl)
  simp only [searchOps, lastOps, TRef.binary, TRef.nullary, TRef.ternary, TRef.quaternary, TRef.unary, TRef.toBuf, TRef.ofBuf, cast_eq]
  after_results <;> rfl

/-- No operation writes argument 0. -/
theorem arg0_after : after (searchOps (F := Ideal) ++ lastOps) V (Proc.devRef .tc main_arg0) = V (Proc.devRef .tc main_arg0) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 1. -/
theorem arg1_after : after (searchOps (F := Ideal) ++ lastOps) V (Proc.devRef .tc main_arg1) = V (Proc.devRef .tc main_arg1) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 2. -/
theorem arg2_after : after (searchOps (F := Ideal) ++ lastOps) V (Proc.devRef .tc main_arg2) = V (Proc.devRef .tc main_arg2) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 3. -/
theorem arg3_after : after (searchOps (F := Ideal) ++ lastOps) V (Proc.devRef .tc main_arg3) = V (Proc.devRef .tc main_arg3) := by
  simp only [List.cons_append, List.nil_append]
  simp only [searchOps, lastOps, TRef.binary, TRef.nullary, TRef.ternary, TRef.quaternary, TRef.unary, TRef.toBuf, TRef.ofBuf, cast_eq]
  after_results <;> rfl

/-- No operation writes argument 4. -/
theorem arg4_after : after (searchOps (F := Ideal) ++ lastOps) V (Proc.devRef .tc main_arg4) = V (Proc.devRef .tc main_arg4) := by
  simp only [List.cons_append, List.nil_append]
  simp only [searchOps, lastOps, TRef.binary, TRef.nullary, TRef.ternary, TRef.quaternary, TRef.unary, TRef.toBuf, TRef.ofBuf, cast_eq]
  after_results <;> rfl

/-- The search does not write the grid. -/
theorem grid_after : after (searchOps (F := Ideal)) V (Proc.devRef .tc main_arg4) = V (Proc.devRef .tc main_arg4) := by
  simp only [searchOps, lastOps, TRef.binary, TRef.nullary, TRef.ternary, TRef.quaternary, TRef.unary, TRef.toBuf, TRef.ofBuf, cast_eq]
  after_results <;> rfl

/-- The result: the rows of the grid at the nearest candidates. -/
theorem result_after : after (searchOps (F := Ideal) ++ lastOps) V (Proc.devRef .tc main_v9) = rows (nearestWords (V (Proc.devRef .tc main_arg0)) (V (Proc.devRef .tc main_arg1)) (V (Proc.devRef .tc main_arg2)) (V (Proc.devRef .tc main_arg3))) (V (Proc.devRef .tc main_arg4)) := by
  have e := search_after V
  rw [after_append, last_after _ (fun j => by rw [e]; exact nearestWords_lt _ _ _ _ j), e, grid_after]

/-- Every execution of the reference ends with the rows of the grid at the nearest candidates, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = rows (nearestWords (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v9).trans (result_after _),
      (h c main_arg0).trans (arg0_after _),
      (h c main_arg1).trans (arg1_after _),
      (h c main_arg2).trans (arg2_after _),
      (h c main_arg3).trans (arg3_after _),
      (h c main_arg4).trans (arg4_after _)⟩)
    (run_seq scopedRefs_eq scopedSems_eq defs main (fun _ => searchOps ++ lastOps) main_eq (fun _ => ops_sub) m ρ)

end Cert.Proof.KernelRef

end
-- ==== Proof.PreKernel.lean ====
/-
  The precondition of the whole kernel, read: every argument of the search is bounded.
-/
module

public import proofs.«01_k».proof.Proof.PreBits
public import proofs.«01_k».proof.Proof.Gen.Pre_bounded

@[expose] public section

set_option maxRecDepth 16384

noncomputable section

namespace Cert.Proof

open Idealize.ShloMosaic

attribute [local instance] Cert.Pre_bounded.Gen.facts

/-- The precondition of the whole kernel bounds the same arguments. -/
theorem within_of_pre (y : FVec Ideal Cert.Pre_bounded.S4096x2 .f32) (x : FVec Ideal Cert.Pre_bounded.S4096x128 .f32)
    (B : FVec Ideal Cert.Pre_bounded.S2500x2x128 .f32) (A G : FVec Ideal Cert.Pre_bounded.S2500x2 .f32)
    (h : Cert.Pre_bounded.fn y x B A G = fun _ => 1#1) : Within y x B A := by
  haveI : Subsingleton Cert.Pre_bounded.S_.Idx := ⟨fun a b => funext fun k => k.elim0⟩
  have e := congrFun h (fun a => a.elim0)
  unfold Cert.Pre_bounded.fn Cert.Pre_bounded.fn_part1 at e
  obtain ⟨e, e3⟩ := bits_of_andi _ _ _ e
  obtain ⟨e, e2⟩ := bits_of_andi _ _ _ e
  obtain ⟨e0, e1⟩ := bits_of_andi _ _ _ e
  exact ⟨fun i => le_of_bit _ _ _ _ i (Host.reduce_andi_all _ _ _ _ _ e0 i), fun i => le_of_bit _ _ _ _ i (Host.reduce_andi_all _ _ _ _ _ e1 i),
    fun i => le_of_bit _ _ _ _ i (Host.reduce_andi_all _ _ _ _ _ e2 i), fun i => le_of_bit _ _ _ _ i (Host.reduce_andi_all _ _ _ _ _ e3 i)⟩

end Cert.Proof

end
-- ==== Proof.KernelClaims.lean ====
/-
  The claims about the whole kernel at extended reals: for bounded arguments every execution finishes with nothing left
  over, and the result is the reference's.
-/
module

public import proofs.«01_k».proof.Defs
public import proofs.«01_k».proof.Proof.KernelIdealRun
public import proofs.«01_k».proof.Proof.KernelIdealValue
public import proofs.«01_k».proof.Proof.KernelRef
public import proofs.«01_k».proof.Proof.PreKernel
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Proof.KernelClaims

open Idealize.ShloMosaic Idealize.SL.Sem

attribute [local instance] Cert.KernelIdeal.Gen.facts Cert.ReferenceIdeal.Gen.facts Cert.Pre_bounded.Gen.facts

/-- The words between the two calls are those of the nearest candidates. -/
theorem words (m : (ℓ : Loc Cert.KernelIdeal.nD Cert.KernelIdeal.τ Cert.KernelIdeal.sig) → Buf (Elt Ideal) ℓ) (hpre : Cert.Pre_KernelIdeal m)
    (c : Dev Cert.KernelIdeal.nD) (h : (⟨3, ![16, 1, 256]⟩ : Shape).ShapeCasts ⟨1, ![4096]⟩) :
    shapeCast ⟨1, ![4096]⟩ ((KernelIdealSc.dats (F := Ideal) m 0 c).arrAt 4 Cert.KernelIdeal.cfg0.N) h
      = nearestWords (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  refine (congrArg (fun b => shapeCast ⟨1, ![4096]⟩ b h) (KernelIdealValue.final m c (within_of_pre _ _ _ _ _ (hpre c)))).trans ?_
  exact shapeCast_blockWords _ _ _ _ h

/-- So each of them names a row of the table. -/
theorem idxOK (m : (ℓ : Loc Cert.KernelIdeal.nD Cert.KernelIdeal.τ Cert.KernelIdeal.sig) → Buf (Elt Ideal) ℓ) (hpre : Cert.Pre_KernelIdeal m) :
    KernelIdealSc.IdxOK (F := Ideal) m := fun d j => by
  have e := congrFun (words m hpre d Cert.KernelIdeal.Gen.facts.shapeCasts_S16x1x256_S4096) j
  exact (congrArg BitVec.toNat e).trans_lt (nearestWords_lt _ _ _ _ j)

/-- The whole kernel finishes, leaves its arguments and every counter as they were. -/
theorem frame_ideal : Cert.quiescent_KernelIdeal := fun m g hpre =>
  (θ_run Cert.KernelIdeal.defs _ _).mono (fun _ h => ⟨fun c => (h.1 c).2, h.2⟩)
    (KernelIdealSc.run_main (F := Ideal) m g (idxOK m hpre))

/-- The reference finishes and leaves its arguments as they were. -/
theorem frame_ref : Cert.quiescent_ReferenceIdeal := fun m g _ =>
  (θ_run Cert.ReferenceIdeal.defs _ _).mono (fun r h => ⟨fun c => (h c).2, sem_eq_zero_of_no_sems (by decide) r.2⟩)
    (KernelRef.run m g)

/-- The same under the precondition. -/
theorem frame_ref_pre : Cert.quiescent_ReferenceIdeal_pre_bounded := fun m g _ =>
  (θ_run Cert.ReferenceIdeal.defs _ _).mono (fun r h => ⟨fun c => (h c).2, sem_eq_zero_of_no_sems (by decide) r.2⟩)
    (KernelRef.run m g)

/-- For bounded arguments the whole kernel and the reference end with equal results. -/
theorem algebraic : Cert.algebraic_KernelIdeal_ReferenceIdeal := by
  intro m g m' g' hpre hagree
  refine ⟨fun c => KernelIdealSc.Res (F := Ideal) m c,
    (θ_run Cert.KernelIdeal.defs _ _).mono (fun _ h => h.1) (KernelIdealSc.run_main (F := Ideal) m g (idxOK m hpre)),
    (θ_run Cert.ReferenceIdeal.defs _ _).mono (fun r h c => ⟨(h c).1.trans ?_, (h c).2⟩) (KernelRef.run m' g')⟩
  rw [(hagree c).1, (hagree c).2.1, (hagree c).2.2.1, (hagree c).2.2.2.1, (hagree c).2.2.2.2]
  refine (congrArg (fun x => rows x _) (words m hpre c Cert.KernelIdeal.Gen.facts.shapeCasts_S16x1x256_S4096).symm).trans ?_
  exact (slice_lookup_pad _ _ _ _ _ _).symm

end Cert.Proof.KernelClaims

end
-- ==== Proof.lean ====
/-
  The proof of the claim: the claims about the SparseCore call and about the nearest-point call, each with its host code,
  and about the whole kernel.
-/
module

public import proofs.«01_k».proof.Defs
public import proofs.«01_k».proof.Proof.GatherClaims
public import proofs.«01_k».proof.Proof.NearestClaims
public import proofs.«01_k».proof.Proof.KernelClaims
public import proofs.«01_k».proof.Proof.Gen.Gather
public import proofs.«01_k».proof.Proof.Gen.GatherIdeal
public import proofs.«01_k».proof.Proof.Gen.GatherRefIdeal
public import proofs.«01_k».proof.Proof.Gen.Nearest
public import proofs.«01_k».proof.Proof.Gen.NearestIdeal
public import proofs.«01_k».proof.Proof.Gen.NearestRefIdeal
public import proofs.«01_k».proof.Proof.Gen.Pre_in_grid
public import proofs.«01_k».proof.Proof.Gen.Pre_bounded_nearest
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_bounded
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Gather.Gen.facts, Cert.GatherIdeal.Gen.facts, Cert.GatherRefIdeal.Gen.facts, Cert.Nearest.Gen.facts, Cert.NearestIdeal.Gen.facts,
    Cert.NearestRefIdeal.Gen.facts, Cert.KernelIdeal.Gen.facts, Cert.ReferenceIdeal.Gen.facts, Cert.Pre_in_grid.Gen.facts,
    Cert.Pre_bounded_nearest.Gen.facts, Cert.Pre_bounded.Gen.facts,
    GatherClaims.frame, GatherClaims.frame_ideal, GatherClaims.frame_ref, GatherClaims.frame_ref_pre,
    NearestClaims.frame, NearestClaims.frame_ideal, NearestClaims.frame_ideal_pre, NearestClaims.frame_ref, NearestClaims.frame_ref_pre,
    KernelClaims.frame_ideal, KernelClaims.frame_ref, KernelClaims.frame_ref_pre,
    trivial, GatherClaims.algebraic, trivial, NearestClaims.algebraic, KernelClaims.algebraic⟩

end Cert.Proof

end
